-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal_pre_rows_in_range (hKernelIdeal := hKernelIdeal) (hReferenceIdeal := hReferenceIdeal) (hPre_rows_in_range := hPre_rows_in_range)
-- ==== Pre_rows_in_range.lean ====
abbrev S4x8192x1920 : Shape := ⟨3, ![4, 8192, 1920]⟩
abbrev S1920x5824 : Shape := ⟨2, ![1920, 5824]⟩
abbrev S15x11648 : Shape := ⟨2, ![15, 11648]⟩
abbrev S11648 : Shape := ⟨1, ![11648]⟩
abbrev S_ : Shape := ⟨0, ![]⟩
abbrev S4x8192 : Shape := ⟨2, ![4, 8192]⟩

class Facts : Prop where
  bitsLt_bf16_f32 : FTy.bits .bf16 < FTy.bits .f32
  reducesTo_S4x8192x1920_S4x8192_d2 : S4x8192x1920.ReducesTo [2] S4x8192
  h_S_ : 0 < S_.numel
  bcast_S_S4x8192 : S_.BroadcastsInDim S4x8192 (![] : Fin 0 → Fin S4x8192.rank)

variable [Facts]

def fn {F : FTy → Type} [FloatOps F] (main_arg0 : FVec F S4x8192x1920 .bf16) (main_arg1 : IVec S1920x5824 8) (main_arg2 : FVec F S15x11648 .f32) (main_arg3 : IVec S15x11648 8) (main_arg4 : FVec F S11648 .f32) : IVec S4x8192 1 :=
  let main_v0 : FVec F S4x8192x1920 .f32 := (extf .f32 · bitsLt_bf16_f32) main_arg0
  let main_v1 : FVec F S4x8192x1920 .f32 := Host.absf main_v0
  let main_cst : FVec F S_ .f32 := constant S_ .f32 0xFF800000#32
  let main_v2 : FVec F S4x8192 .f32 := (fun x v => Host.reduce FloatOps.maximumf x v reducesTo_S4x8192x1920_S4x8192_d2 h_S_) main_v1 main_cst
  let main_cst_0 : FVec F S_ .f32 := constant S_ .f32 0x00000000#32
  let main_v3 : FVec F S4x8192 .f32 := broadcastInDim S4x8192 ![] bcast_S_S4x8192 main_cst_0
  let main_v4 : IVec S4x8192 1 := cmpf .oeq main_v2 main_v3
  let main_cst_1 : FVec F S_ .f32 := constant S_ .f32 0x04E00000#32
  let main_v5 : FVec F S4x8192 .f32 := broadcastInDim S4x8192 ![] bcast_S_S4x8192 main_cst_1
  let main_v6 : IVec S4x8192 1 := cmpf .oge main_v2 main_v5
  let main_cst_2 : FVec F S_ .f32 := constant S_ .f32 0x7F7F0000#32
  let main_v7 : FVec F S4x8192 .f32 := broadcastInDim S4x8192 ![] bcast_S_S4x8192 main_cst_2
  let main_v8 : IVec S4x8192 1 := cmpf .ole main_v2 main_v7
  let main_v9 : IVec S4x8192 1 := andi main_v6 main_v8
  let main_v10 : IVec S4x8192 1 := ori main_v4 main_v9
  main_v10
-- ==== Kernel.lean ====
abbrev S4x8192x1920 : Shape := ⟨3, ![4, 8192, 1920]⟩
abbrev S1920x5824 : Shape := ⟨2, ![1920, 5824]⟩
abbrev S15x11648 : Shape := ⟨2, ![15, 11648]⟩
abbrev S11648 : Shape := ⟨1, ![11648]⟩
abbrev S15x1x11648 : Shape := ⟨3, ![15, 1, 11648]⟩
abbrev S1920x11648 : Shape := ⟨2, ![1920, 11648]⟩
abbrev S128x5824 : Shape := ⟨2, ![128, 5824]⟩
abbrev S1x1x11648 : Shape := ⟨3, ![1, 1, 11648]⟩
abbrev S128x11648 : Shape := ⟨2, ![128, 11648]⟩
abbrev S1x11648 : Shape := ⟨2, ![1, 11648]⟩
abbrev S1x5824 : Shape := ⟨2, ![1, 5824]⟩
abbrev S32768x1920 : Shape := ⟨2, ![32768, 1920]⟩
abbrev S32768x11648 : Shape := ⟨2, ![32768, 11648]⟩
abbrev S128x1x256 : Shape := ⟨3, ![128, 1, 256]⟩
abbrev S256x1920 : Shape := ⟨2, ![256, 1920]⟩
abbrev S256x11648 : Shape := ⟨2, ![256, 11648]⟩
abbrev S1x1x256 : Shape := ⟨3, ![1, 1, 256]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S1920x512 : Shape := ⟨2, ![1920, 512]⟩
abbrev S256x512 : Shape := ⟨2, ![256, 512]⟩
abbrev S1x512 : Shape := ⟨2, ![1, 512]⟩
abbrev S1920x384 : Shape := ⟨2, ![1920, 384]⟩
abbrev S256x384 : Shape := ⟨2, ![256, 384]⟩
abbrev S1x384 : Shape := ⟨2, ![1, 384]⟩
abbrev S4x8192x11648 : Shape := ⟨3, ![4, 8192, 11648]⟩
abbrev S4x8192x1 : Shape := ⟨3, ![4, 8192, 1]⟩

abbrev nBuf : Space → Nat
  | .hbm => 16
  | .vmem => 18
  | .smem => 0
  | _ => 0

abbrev bufTy : (tb : Table) → Fin (tcTables nBuf tb) → BufTy
  | .hbm, ⟨0, _⟩ => ⟨S4x8192x1920, .bf16⟩
  | .hbm, ⟨1, _⟩ => ⟨S1920x5824, .i8⟩
  | .hbm, ⟨2, _⟩ => ⟨S15x11648, .f32⟩
  | .hbm, ⟨3, _⟩ => ⟨S15x11648, .i8⟩
  | .hbm, ⟨4, _⟩ => ⟨S11648, .f32⟩
  | .hbm, ⟨5, _⟩ => ⟨S15x1x11648, .i8⟩
  | .hbm, ⟨6, _⟩ => ⟨S15x1x11648, .f32⟩
  | .hbm, ⟨7, _⟩ => ⟨S1920x11648, .bf16⟩
  | .hbm, ⟨8, _⟩ => ⟨S32768x1920, .bf16⟩
  | .hbm, ⟨9, _⟩ => ⟨S1x11648, .f32⟩
  | .hbm, ⟨10, _⟩ => ⟨S32768x11648, .bf16⟩
  | .hbm, ⟨11, _⟩ => ⟨S32768x1920, .fp8e4m3⟩
  | .hbm, ⟨12, _⟩ => ⟨S128x1x256, .f32⟩
  | .hbm, ⟨13, _⟩ => ⟨S4x8192x11648, .bf16⟩
  | .hbm, ⟨14, _⟩ => ⟨S4x8192x1920, .fp8e4m3⟩
  | .hbm, ⟨15, _⟩ => ⟨S4x8192x1, .f32⟩
  | .local _ .vmem, ⟨0, _⟩ => ⟨S128x5824, .i8⟩
  | .local _ .vmem, ⟨1, _⟩ => ⟨S128x5824, .i8⟩
  | .local _ .vmem, ⟨2, _⟩ => ⟨S1x1x11648, .i8⟩
  | .local _ .vmem, ⟨3, _⟩ => ⟨S1x1x11648, .i8⟩
  | .local _ .vmem, ⟨4, _⟩ => ⟨S1x1x11648, .f32⟩
  | .local _ .vmem, ⟨5, _⟩ => ⟨S1x1x11648, .f32⟩
  | .local _ .vmem, ⟨6, _⟩ => ⟨S128x11648, .bf16⟩
  | .local _ .vmem, ⟨7, _⟩ => ⟨S128x11648, .bf16⟩
  | .local _ .vmem, ⟨8, _⟩ => ⟨S256x1920, .bf16⟩
  | .local _ .vmem, ⟨9, _⟩ => ⟨S256x1920, .bf16⟩
  | .local _ .vmem, ⟨10, _⟩ => ⟨S1920x11648, .bf16⟩
  | .local _ .vmem, ⟨11, _⟩ => ⟨S1x11648, .f32⟩
  | .local _ .vmem, ⟨12, _⟩ => ⟨S256x11648, .bf16⟩
  | .local _ .vmem, ⟨13, _⟩ => ⟨S256x11648, .bf16⟩
  | .local _ .vmem, ⟨14, _⟩ => ⟨S256x1920, .fp8e4m3⟩
  | .local _ .vmem, ⟨15, _⟩ => ⟨S256x1920, .fp8e4m3⟩
  | .local _ .vmem, ⟨16, _⟩ => ⟨S1x1x256, .f32⟩
  | .local _ .vmem, ⟨17, _⟩ => ⟨S1x1x256, .f32⟩
  | _, _ => ⟨S4x8192x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5824 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x11648 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x11648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x11648 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x1920 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1920x11648 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x11648 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x11648 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1920 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S4x8192x1920 : Shape := ⟨3, ![4, 8192, 1920]⟩
abbrev S1920x5824 : Shape := ⟨2, ![1920, 5824]⟩
abbrev S15x11648 : Shape := ⟨2, ![15, 11648]⟩
abbrev S11648 : Shape := ⟨1, ![11648]⟩
abbrev S4x8192x11648 : Shape := ⟨3, ![4, 8192, 11648]⟩
abbrev S4x8192x1 : Shape := ⟨3, ![4, 8192, 1]⟩
abbrev S4x8192 : Shape := ⟨2, ![4, 8192]⟩
abbrev S15x5824 : Shape := ⟨2, ![15, 5824]⟩
abbrev S15x1x5824 : Shape := ⟨3, ![15, 1, 5824]⟩
abbrev S15x128x5824 : Shape := ⟨3, ![15, 128, 5824]⟩
abbrev S4x8192x5824 : Shape := ⟨3, ![4, 8192, 5824]⟩
abbrev S1x1x11648 : Shape := ⟨3, ![1, 1, 11648]⟩

abbrev nBuf : Space → Nat
  | .hbm => 8
  | .vmem => 8
  | .smem => 0
  | _ => 0

abbrev bufTy : (tb : Table) → Fin (tcTables nBuf tb) → BufTy
  | .hbm, ⟨0, _⟩ => ⟨S4x8192x1920, .bf16⟩
  | .hbm, ⟨1, _⟩ => ⟨S1920x5824, .i8⟩
  | .hbm, ⟨2, _⟩ => ⟨S15x11648, .f32⟩
  | .hbm, ⟨3, _⟩ => ⟨S15x11648, .i8⟩
  | .hbm, ⟨4, _⟩ => ⟨S11648, .f32⟩
  | .hbm, ⟨5, _⟩ => ⟨S4x8192x11648, .bf16⟩
  | .hbm, ⟨6, _⟩ => ⟨S4x8192x1920, .fp8e4m3⟩
  | .hbm, ⟨7, _⟩ => ⟨S4x8192x1, .f32⟩
  | .local _ .vmem, ⟨0, _⟩ => ⟨S4x8192x1920, .bf16⟩
  | .local _ .vmem, ⟨1, _⟩ => ⟨S1920x5824, .i8⟩
  | .local _ .vmem, ⟨2, _⟩ => ⟨S15x11648, .f32⟩
  | .local _ .vmem, ⟨3, _⟩ => ⟨S15x11648, .i8⟩
  | .local _ .vmem, ⟨4, _⟩ => ⟨S11648, .f32⟩
  | .local _ .vmem, ⟨5, _⟩ => ⟨S4x8192x11648, .bf16⟩
  | .local _ .vmem, ⟨6, _⟩ => ⟨S4x8192x1920, .fp8e4m3⟩
  | .local _ .vmem, ⟨7, _⟩ => ⟨S4x8192x1, .f32⟩
  | _, _ => ⟨S4x8192x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x8192x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x5824 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15x11648 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15x11648 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11648 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192x11648 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x1920 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8192x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Run.lean ====
module
public import proofs.«01_k».proof.Proof.Gen.KernelIdeal.Frame
@[expose] public section
set_option maxRecDepth 16384
noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run, read: the three results are the last host reshapes of what the regions leave (`W5`), and the arguments end
    unchanged. The launch is the frame's, with the results kept in the final state's reading. -/
theorem run_results : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_v7) = W5 m ρ c (Proc.devRef .tc main_v7)
      ∧ r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v6 (by decide)), h c _ (mem_uc main_v7 (by decide)), h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Gen

end
-- ==== Proof.RefRun.lean ====
/- The reference's run, read: each result array after the run as ONE function (`G5`, `G6`, `G7`) of the argument arrays, and the
   arguments unchanged. The reference has one grid point and every window's block is its whole array. The text is the generated
   value module's, without its two sections that read the payloads index by index (their proofs do not elaborate for a payload
   that takes the logarithm of a constant); `RefValue` reads the payloads instead. -/
module

public import proofs.«01_k».proof.Proof.Gen.ReferenceIdeal.Frame
public import Idealize.ShloMosaic.Lib.Pipeline.Value

@[expose] public section

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4x8192x11648.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4x8192x1920.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4x8192x1.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x8192x1920.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 8192 + 1 * (j 1).val = (j 1).val; omega
  | ⟨2, _⟩ => show win0_0.index t (2 : Fin 3) * 1920 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1920x5824.Idx) : ((cfg0.win 1).blk t).view.emb j = j := by
  obtain ⟨e0, e1⟩ := idx_zero1 t
  funext a; apply Fin.ext
  match a with
  | ⟨0, _⟩ => show win0_1.index t (0 : Fin 2) * 1920 + 1 * (j 0).val = (j 0).val; omega
  | ⟨1, _⟩ => show win0_1.index t (1 : Fin 2) * 5824 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S15x11648.Idx) : ((cfg0.win 2).blk t).view.emb j = j := by
  obtain ⟨e0, e1⟩ := idx_zero2 t
  funext a; apply Fin.ext
  match a with
  | ⟨0, _⟩ => show win0_2.index t (0 : Fin 2) * 15 + 1 * (j 0).val = (j 0).val; omega
  | ⟨1, _⟩ => show win0_2.index t (1 : Fin 2) * 11648 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S15x11648.Idx) : ((cfg0.win 3).blk t).view.emb j = j := by
  obtain ⟨e0, e1⟩ := idx_zero3 t
  funext a; apply Fin.ext
  match a with
  | ⟨0, _⟩ => show win0_3.index t (0 : Fin 2) * 15 + 1 * (j 0).val = (j 0).val; omega
  | ⟨1, _⟩ => show win0_3.index t (1 : Fin 2) * 11648 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S11648.Idx) : ((cfg0.win 4).blk t).view.emb j = j := by
  have e0 := idx_zero4 t
  funext a; apply Fin.ext
  match a with
  | ⟨0, _⟩ => show win0_4.index t (0 : Fin 1) * 11648 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S4x8192x11648.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 8192 + 1 * (j 1).val = (j 1).val; omega
  | ⟨2, _⟩ => show win0_5.index t (2 : Fin 3) * 11648 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x8192x1920.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 8192 + 1 * (j 1).val = (j 1).val; omega
  | ⟨2, _⟩ => show win0_6.index t (2 : Fin 3) * 1920 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S4x8192x1.Idx) : ((cfg0.win 7).blk t).view.emb j = j := by
  obtain ⟨e0, e1, e2⟩ := idx_zero7 t
  funext a; apply Fin.ext
  match a with
  | ⟨0, _⟩ => show win0_7.index t (0 : Fin 3) * 4 + 1 * (j 0).val = (j 0).val; omega
  | ⟨1, _⟩ => show win0_7.index t (1 : Fin 3) * 8192 + 1 * (j 1).val = (j 1).val; omega
  | ⟨2, _⟩ => show win0_7.index t (2 : Fin 3) * 1 + 1 * (j 2).val = (j 2).val; omega

/-! ### Output window 5: the array after the run -/

/-- What the window's array ends holding: `out0_5` applied to the argument arrays in place of the input blocks (a value that the
    frame states apart, `kK_payN a…`, keeps its loads inside its own definition). -/
abbrev G5 (a0 : Vec F S4x8192x1920 .bf16) (a1 : Vec F S1920x5824 .i8) (a2 : Vec F S15x11648 .f32) (a3 : Vec F S15x11648 .i8) (a4 : Vec F S11648 .f32) : Vec F S4x8192x11648 .bf16 :=
  k0_pay1 a2 a3 (k0_pay11 a0 a1 a2 a3 a4) (k0_pay12 a0 a1 a2 a3 a4) (k0_pay7 a1) (k0_pay8 a3) (k0_pay9 a2) (k0_pay10 a1) a4

/-- A load of the whole of a block reads the block, and the one store through the whole rectangle leaves its payload. -/
theorem out5_eq (a0 : Vec F S4x8192x1920 .bf16) (a1 : Vec F S1920x5824 .i8) (a2 : Vec F S15x11648 .f32) (a3 : Vec F S15x11648 .i8) (a4 : Vec F S11648 .f32) : out0_5 (F := F) a0 a1 a2 a3 a4 = G5 a0 a1 a2 a3 a4 := by
  unfold out0_5
  rw [View.canon_unit_zero hz5, View.ld_unit_zero (S := S15x11648) hz2 _ a2, View.ld_unit_zero (S := S15x11648) hz3 _ a3, View.ld_unit_zero (S := S1920x5824) hz1 _ a1, View.ld_unit_zero (S := S11648) hz4 _ a4]

/-- Cutting the point's block out of `X` and reading `X` through the block's view give the same. -/
theorem cut5_eq (t : Fin cfg0.N) (X : Vec F S4x8192x11648 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S4x8192x11648.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S4x8192x1920 .bf16) (a1 : Vec F S1920x5824 .i8) (a2 : Vec F S15x11648 .f32) (a3 : Vec F S15x11648 .i8) (a4 : Vec F S11648 .f32) : Vec F S4x8192x1920 .fp8e4m3 :=
  k0_pay12 a0 a1 a2 a3 a4

/-- The one store through the whole rectangle leaves its payload. -/
theorem out6_eq (a0 : Vec F S4x8192x1920 .bf16) (a1 : Vec F S1920x5824 .i8) (a2 : Vec F S15x11648 .f32) (a3 : Vec F S15x11648 .i8) (a4 : Vec F S11648 .f32) : out0_6 (F := F) a0 a1 a2 a3 a4 = G6 a0 a1 a2 a3 a4 := by
  unfold out0_6
  rw [View.canon_unit_zero hz6]

/-- Cutting the point's block out of `X` and reading `X` through the block's view give the same. -/
theorem cut6_eq (t : Fin cfg0.N) (X : Vec F S4x8192x1920 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S4x8192x1920.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S4x8192x1920 .bf16) (a1 : Vec F S1920x5824 .i8) (a2 : Vec F S15x11648 .f32) (a3 : Vec F S15x11648 .i8) (a4 : Vec F S11648 .f32) : Vec F S4x8192x1 .f32 :=
  k0_pay11 a0 a1 a2 a3 a4

/-- The one store through the whole rectangle leaves its payload. -/
theorem out7_eq (a0 : Vec F S4x8192x1920 .bf16) (a1 : Vec F S1920x5824 .i8) (a2 : Vec F S15x11648 .f32) (a3 : Vec F S15x11648 .i8) (a4 : Vec F S11648 .f32) : out0_7 (F := F) a0 a1 a2 a3 a4 = G7 a0 a1 a2 a3 a4 := by
  unfold out0_7
  rw [View.canon_unit_zero hz7]

/-- Cutting the point's block out of `X` and reading `X` through the block's view give the same. -/
theorem cut7_eq (t : Fin cfg0.N) (X : Vec F S4x8192x1 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S4x8192x1.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.ReferenceIdeal.Whole

end
-- ==== Proof.RowMax.lean ====
module
public import Idealize.ShloMosaic.Lib.Pointwise
@[expose] public section
noncomputable section
namespace Cert.Proof
open Idealize.ShloMosaic Idealize.SL.Sem
open Idealize.ShloMosaic.Pointwise

/-- The largest of the numbers `f k`, `-∞` if there are none: both programs start their row maximum at `-∞`. -/
def rowMax {n : ℕ} (f : Fin n → EReal) : EReal :=
  (Finset.univ : Finset (Fin n)).fold max (Ideal.ofBits .f32 0xFF800000#32) f

/-- The reference's `vector.multi_reduction <maximumf>` along the last of three axes, at the row `(b, s)`, is the row's maximum. -/
theorem multiReduction_rowMax {n0 n1 n2 : ℕ} (x : FVec Ideal ⟨3, ![n0, n1, n2]⟩ .f32)
    (h : (⟨3, ![n0, n1, n2]⟩ : Shape).Reduces [2] ⟨2, ![n0, n1]⟩) (hφ : FKind.Formats .f32) (hacc : 0xFF800000#32 = FKind.maximumf.neutral .f32 hφ)
    (b : Fin n0) (s : Fin n1) :
    multiReduction .maximumf [2] (⟨2, ![n0, n1]⟩ : Shape) x 0xFF800000#32 h hφ hacc (ix2 b s) = rowMax fun k => x (ix3 b s k) := by
  rw [multiReduction_maximumf_eq_fold, Shape.Reduces.fold_fiber_r3_a2]
  rfl

/-- The precondition's `stablehlo.reduce` with maximum along the last of three axes, at the row `(b, s)`, is the row's maximum. -/
theorem hostReduce_rowMax {n0 n1 n2 : ℕ} {u : Shape} (x : FVec Ideal ⟨3, ![n0, n1, n2]⟩ .f32)
    (h : (⟨3, ![n0, n1, n2]⟩ : Shape).ReducesTo [2] ⟨2, ![n0, n1]⟩) (hu : 0 < u.numel) (b : Fin n0) (s : Fin n1) :
    Host.reduce FloatOps.maximumf x (constant u .f32 0xFF800000#32) h hu (ix2 b s) = rowMax fun k => x (ix3 b s k) := by
  rw [Host.reduce_eq_fold, Shape.ReducesTo.fold_fiber_r3_a2]
  rfl

end Cert.Proof
end
-- ==== Proof.RefValue.lean ====
module
public import proofs.«01_k».proof.Proof.RefRun
public import proofs.«01_k».proof.Proof.RowMax
@[expose] public section
set_option maxRecDepth 16384
noncomputable section
namespace Cert.Proof
open Cert.ReferenceIdeal Cert.ReferenceIdeal.Gen Cert.ReferenceIdeal.Whole
open Idealize.ShloMosaic Idealize.SL.Sem
open Idealize.ShloMosaic.Pointwise

section Generic
variable {F : FTy → Type} [FloatOps F]

/-- The reference's exponent of a row whose largest magnitude is `a`: zero for a zero row, else
    `⌊log (a / 448) / log 2⌋ + 1`. -/
def refExponent (a : F .f32) : F .f32 :=
  Scalar.select (FloatOps.cmpf .oeq a (Scalar.ofBits .f32 0x00000000#32)) (Scalar.ofBits .f32 0x00000000#32)
    (FloatOps.addf (FloatOps.floor (FloatOps.divf (FloatOps.log (FloatOps.mulf a (Scalar.ofBits .f32 0x3B124925#32)))
      (FloatOps.log (Scalar.ofBits .f32 0x40000000#32)))) (Scalar.ofBits .f32 0x3F800000#32))

/-- Every row's largest magnitude, as the reference reduces it. -/
def refAmax (x : Vec F S4x8192x1920 .bf16) : FVec F S4x8192 .f32 :=
  multiReduction .maximumf [2] S4x8192 (absf (extf .f32 x bitsLt_bf16_f32)) 0xFF800000#32 reduces_S4x8192x1920_S4x8192 (.inl rfl) rfl

/-- The exponents of all rows from the rows' largest magnitudes, as the reference computes them. -/
def refExponents (A : FVec F S4x8192 .f32) : FVec F S4x8192x1 .f32 :=
  select (cmpf .oeq (shapeCast S4x8192x1 A shapeCasts_S4x8192_S4x8192x1) (broadcast S4x8192x1 (Scalar.ofBits .f32 0x00000000#32)))
    (broadcast S4x8192x1 (Scalar.ofBits .f32 0x00000000#32))
    (addf (floor (divf (log (mulf (shapeCast S4x8192x1 A shapeCasts_S4x8192_S4x8192x1) (broadcast S4x8192x1 (Scalar.ofBits .f32 0x3B124925#32))))
      (log (broadcast S4x8192x1 (Scalar.ofBits .f32 0x40000000#32))))) (broadcast S4x8192x1 (Scalar.ofBits .f32 0x3F800000#32)))

/-- The exponent of row `(b, s)` depends on that row's largest magnitude alone. -/
theorem refExponents_at (A : FVec F S4x8192 .f32) (b : Fin 4) (s : Fin 8192) (z : Fin 1) :
    refExponents A (ix3 b s z) = refExponent (A (ix2 b s)) := by
  have h : shapeCast S4x8192x1 A shapeCasts_S4x8192_S4x8192x1 (ix3 b s z) = A (ix2 b s) := by pointwise
  rw [← h]
  rfl

/-- The codes from the activations and the exponents of their rows, as the reference computes them. -/
def refCodes (x : Vec F S4x8192x1920 .bf16) (E : FVec F S4x8192x1 .f32) : FVec F S4x8192x1920 .fp8e4m3 :=
  truncf .fp8e4m3 (minimumf (broadcast S4x8192x1920 (Scalar.ofBits .f32 0x43E00000#32)) (maximumf (broadcast S4x8192x1920 (Scalar.ofBits .f32 0xC3E00000#32))
    (mulf (extf .f32 x bitsLt_bf16_f32) (broadcastTo S4x8192x1920 (exp2 (subf (broadcast S4x8192x1 (Scalar.ofBits .f32 0x00000000#32)) E))
      broadcasts_S4x8192x1_S4x8192x1920)))) bitsLt_fp8e4m3_f32

/-- The code of channel `k` of row `(b, s)`. -/
theorem refCodes_at (x : Vec F S4x8192x1920 .bf16) (E : FVec F S4x8192x1 .f32) (b : Fin 4) (s : Fin 8192) (k : Fin 1920) :
    refCodes x E (ix3 b s k) = FloatOps.truncf .fp8e4m3 bitsLt_fp8e4m3_f32 (FloatOps.minimumf (Scalar.ofBits .f32 0x43E00000#32)
      (FloatOps.maximumf (Scalar.ofBits .f32 0xC3E00000#32) (FloatOps.mulf (FloatOps.extf .f32 bitsLt_bf16_f32 (x (ix3 b s k)))
        (FloatOps.exp2 (FloatOps.subf (Scalar.ofBits .f32 0x00000000#32) (E (ix3 b s 0))))))) := by
  have h (V : FVec F S4x8192x1 .f32) : broadcastTo S4x8192x1920 V broadcasts_S4x8192x1_S4x8192x1920 (ix3 b s k) = V (ix3 b s 0) := by pointwise
  have h' := h (exp2 (subf (broadcast S4x8192x1 (Scalar.ofBits .f32 0x00000000#32)) E))
  rw [show FloatOps.exp2 (FloatOps.subf (Scalar.ofBits .f32 0x00000000#32) (E (ix3 b s 0)))
    = exp2 (subf (broadcast S4x8192x1 (Scalar.ofBits .f32 0x00000000#32)) E) (ix3 b s 0) from rfl, ← h']
  rfl

/-- The payload that the reference stores as scales. -/
theorem k0_pay5_eq (x : Vec F S4x8192x1920 .bf16) : k0_pay5 x = exp2 (refExponents (refAmax x)) := rfl

/-- The payload that the reference stores as codes. -/
theorem k0_pay6_eq (x : Vec F S4x8192x1920 .bf16) : k0_pay6 x = refCodes x (refExponents (refAmax x)) := rfl

/-- The reference's array of scales at row `(b, s)`. -/
theorem G7_at (a0 : Vec F S4x8192x1920 .bf16) (a1 : Vec F S1920x5824 .i8) (a2 : Vec F S15x11648 .f32) (a3 : Vec F S15x11648 .i8) (a4 : Vec F S11648 .f32)
    (b : Fin 4) (s : Fin 8192) (z : Fin 1) :
    k0_pay11 a0 a1 a2 a3 a4 (ix3 b s z) = FloatOps.exp2 (refExponent (refAmax a0 (ix2 b s))) := by
  unfold k0_pay11
  rw [View.ld_unit_zero (S := S4x8192x1920) hz0 _ a0, k0_pay5_eq, ← refExponents_at _ b s z]
  rfl

/-- The reference's array of codes at row `(b, s)`, channel `k`. -/
theorem G6_at (a0 : Vec F S4x8192x1920 .bf16) (a1 : Vec F S1920x5824 .i8) (a2 : Vec F S15x11648 .f32) (a3 : Vec F S15x11648 .i8) (a4 : Vec F S11648 .f32)
    (b : Fin 4) (s : Fin 8192) (k : Fin 1920) :
    k0_pay12 a0 a1 a2 a3 a4 (ix3 b s k) = FloatOps.truncf .fp8e4m3 bitsLt_fp8e4m3_f32 (FloatOps.minimumf (Scalar.ofBits .f32 0x43E00000#32)
      (FloatOps.maximumf (Scalar.ofBits .f32 0xC3E00000#32) (FloatOps.mulf (FloatOps.extf .f32 bitsLt_bf16_f32 (a0 (ix3 b s k)))
        (FloatOps.exp2 (FloatOps.subf (Scalar.ofBits .f32 0x00000000#32) (refExponent (refAmax a0 (ix2 b s)))))))) := by
  unfold k0_pay12
  rw [View.ld_unit_zero (S := S4x8192x1920) hz0 _ a0, k0_pay6_eq, refCodes_at, refExponents_at]

end Generic

/-- The largest magnitude of row `(b, s)` over the extended reals. -/
theorem refAmax_at (x : Vec Ideal S4x8192x1920 .bf16) (b : Fin 4) (s : Fin 8192) :
    refAmax x (ix2 b s) = rowMax fun k => FloatOps.absf (F := Ideal) (φ := .f32) (x (ix3 b s k)) := by
  exact multiReduction_rowMax (n0 := 4) (n1 := 8192) (n2 := 1920) (absf (extf .f32 x bitsLt_bf16_f32)) _ _ _ b s

/-- The reference's scale of row `(b, s)` over the extended reals. -/
theorem ref_scale (a0 : Vec Ideal S4x8192x1920 .bf16) (a1 : Vec Ideal S1920x5824 .i8) (a2 : Vec Ideal S15x11648 .f32) (a3 : Vec Ideal S15x11648 .i8) (a4 : Vec Ideal S11648 .f32)
    (b : Fin 4) (s : Fin 8192) (z : Fin 1) :
    G7 a0 a1 a2 a3 a4 (ix3 b s z)
      = Ideal.exp2 (refExponent (F := Ideal) (rowMax fun k => FloatOps.absf (F := Ideal) (φ := .f32) (a0 (ix3 b s k)))) := by
  rw [G7, G7_at, refAmax_at]
  rfl

/-- The reference's code of channel `k` of row `(b, s)` over the extended reals: the clipped quotient (rounding to a format is the
    identity there). -/
theorem ref_code (a0 : Vec Ideal S4x8192x1920 .bf16) (a1 : Vec Ideal S1920x5824 .i8) (a2 : Vec Ideal S15x11648 .f32) (a3 : Vec Ideal S15x11648 .i8) (a4 : Vec Ideal S11648 .f32)
    (b : Fin 4) (s : Fin 8192) (k : Fin 1920) :
    G6 a0 a1 a2 a3 a4 (ix3 b s k)
      = min (Ideal.ofBits .f32 0x43E00000#32) (max (Ideal.ofBits .f32 0xC3E00000#32) ((a0 (ix3 b s k) : EReal) *
          Ideal.exp2 (Ideal.ofBits .f32 0x00000000#32 - refExponent (F := Ideal) (rowMax fun k => FloatOps.absf (F := Ideal) (φ := .f32) (a0 (ix3 b s k)))))) := by
  rw [G6, G6_at, refAmax_at]
  rfl

/-- A packed word's half as a signed number: the low four bits for the first 5824 columns, the rest for the others. -/
def refWeight (a1 : Vec Ideal S1920x5824 .i8) (a2 : Vec Ideal S15x11648 .f32) (a3 : Vec Ideal S15x11648 .i8) (x : Fin 1920) (n : Fin 11648) : EReal :=
  if h : n.val < 5824 then
    (FloatOps.sitofp (F := Ideal) .bf16 (IntOp.andi (BitVec.setWidth 32 (a1 (ix2 x ⟨n.val, h⟩))) 15#32)
      - FloatOps.uitofp (F := Ideal) .bf16 (a3 (ix2 (⟨x.val / 128, by omega⟩ : Fin 15) n))) * a2 (ix2 (⟨x.val / 128, by omega⟩ : Fin 15) n)
  else
    (FloatOps.sitofp (F := Ideal) .bf16 (IntOp.shrsi .vector (BitVec.setWidth 32 (a1 (ix2 x ⟨n.val - 5824, by omega⟩))) 4#32)
      - FloatOps.uitofp (F := Ideal) .bf16 (a3 (ix2 (⟨x.val / 128, by omega⟩ : Fin 15) n))) * a2 (ix2 (⟨x.val / 128, by omega⟩ : Fin 15) n)

/-- The reference's product at `(b, s, n)` from codes and scales held as variables. -/
theorem ref_y_of (a1 : Vec Ideal S1920x5824 .i8) (a2 : Vec Ideal S15x11648 .f32) (a3 : Vec Ideal S15x11648 .i8) (a4 : Vec Ideal S11648 .f32)
    (v22 : FVec Ideal S4x8192x1 .f32) (v32 : FVec Ideal S4x8192x1920 .fp8e4m3) (b : Fin 4) (s : Fin 8192) (n : Fin 11648) :
    k0_pay1 a2 a3 v22 v32 (k0_pay7 a1) (k0_pay8 a3) (k0_pay9 a2) (k0_pay10 a1) a4 (ix3 b s n)
      = (∑ x : Fin 1920, (v32 (ix3 b s x) : EReal) * refWeight a1 a2 a3 x n) * v22 (ix3 b s 0) * a4 (ix1 n) := by
  pointwise [k0_pay1, k0_pay2, k0_pay7, k0_pay8, k0_pay9, k0_pay10]
  split <;> rename_i h
  · simp only [refWeight, dif_pos h]
  · have hn : (⟨5824 + (n.val - 5824), by omega⟩ : Fin 11648) = n := Fin.ext (by show 5824 + (n.val - 5824) = n.val; omega)
    simp only [refWeight, dif_neg h, hn]

/-- The reference's product at `(b, s, n)`. -/
theorem ref_y (a0 : Vec Ideal S4x8192x1920 .bf16) (a1 : Vec Ideal S1920x5824 .i8) (a2 : Vec Ideal S15x11648 .f32) (a3 : Vec Ideal S15x11648 .i8) (a4 : Vec Ideal S11648 .f32)
    (b : Fin 4) (s : Fin 8192) (n : Fin 11648) :
    G5 a0 a1 a2 a3 a4 (ix3 b s n)
      = (∑ x : Fin 1920, (G6 a0 a1 a2 a3 a4 (ix3 b s x) : EReal) * refWeight a1 a2 a3 x n) * G7 a0 a1 a2 a3 a4 (ix3 b s 0) * a4 (ix1 n) :=
  ref_y_of a1 a2 a3 a4 _ _ b s n

end Cert.Proof
end
-- ==== Proof.Exponent.lean ====
module
public import proofs.«01_k».proof.Proof.RefValue
@[expose] public section
set_option maxRecDepth 16384
noncomputable section
namespace Cert.Proof
open Idealize.ShloMosaic Idealize.SL.Sem

/-! ## The kernel's side: counting powers of two -/

/-- The word whose exponent field is `k` and whose other bits are zero. -/
def expWord (w : BitVec 32) : BitVec 32 := IntOp.shli ArithUnit.vector w 23#32

/-- The number of the 256 words `k << 23` that read as floats are not above `v`, less one: the exponent field of `v`. -/
def expField (v : EReal) : BitVec 32 :=
  IntOp.subi (Finset.fold IntOp.addi 0#32
    (fun k : Fin 256 => BitVec.setWidth 32 (BitVec.ofBool (decide (Ideal.ofBits .f32 (expWord (BitVec.ofNat 32 k.val)) ≤ v)))) Finset.univ) 1#32

/-- The kernel's scale from the exponent field `n` of `amax / 448`. -/
def kerScale (n : BitVec 32) : EReal :=
  Ideal.ofBits .f32 (expWord (Scalar.select (IntOp.cmpi .eq n 0#32) 127#32 (IntOp.addi n 1#32)))

/-- The kernel's inverse scale from the exponent field `n` of `amax / 448`. -/
def kerInv (n : BitVec 32) : EReal :=
  Ideal.ofBits .f32 (expWord (Scalar.select (IntOp.cmpi .eq n 0#32) 127#32 (IntOp.subi 253#32 n)))

/-- The three fields of the word `k << 23`. -/
theorem expWord_fields : ∀ k : Fin 256, (expWord (BitVec.ofNat 32 k.val)).extractLsb' 31 1 = 0#1
    ∧ ((expWord (BitVec.ofNat 32 k.val)).extractLsb' 23 8).toNat = k.val
    ∧ ((expWord (BitVec.ofNat 32 k.val)).extractLsb' 0 23).toNat = 0 := by decide

/-- What the word `k << 23` is as a float: zero, a power of two, or infinity. -/
theorem ofBits_expWord (k : Fin 256) : Ideal.ofBits .f32 (expWord (BitVec.ofNat 32 k.val))
    = if k.val = 255 then ⊤ else if k.val = 0 then 0 else (((2 : ℝ) ^ ((k.val : ℤ) - 127) : ℝ) : EReal) := by
  obtain ⟨h1, h2, h3⟩ := expWord_fields k
  show Ideal.ieee 8 23 _ = _
  unfold Ideal.ieee
  rw [show (8 + 23 : ℕ) = 31 from rfl, h1, h2, h3]
  by_cases hk : k.val = 255
  · simp [hk]
  · by_cases hk0 : k.val = 0
    · simp [hk0]
    · rw [if_neg (by norm_num; exact hk), if_neg hk0, if_neg hk, if_neg hk0, if_neg (by decide : ¬ ((0#1 == 1#1) = true)),
        show ((2 : ℤ) ^ (8 - 1) - 1) = 127 by norm_num,
        show (k.val : ℤ) - 127 = 23 + ((k.val : ℤ) - 127 - 23) by ring, zpow_add₀ (two_ne_zero : (2 : ℝ) ≠ 0)]
      rw [show 23 + ((k.val : ℤ) - 127 - 23) - ((23 : ℕ) : ℤ) = (k.val : ℤ) - 127 - 23 by push_cast; ring]
      rw [one_mul, show ((2 ^ 23 + 0 : ℕ) : ℝ) = (2 : ℝ) ^ (23 : ℤ) by norm_num]

/-- A power of two between the smallest and the largest normal exponent, as the word that the kernel builds. -/
theorem ofBits_expWord_normal (k : ℕ) (h1 : 1 ≤ k) (h2 : k ≤ 254) :
    Ideal.ofBits .f32 (expWord (BitVec.ofNat 32 k)) = (((2 : ℝ) ^ ((k : ℤ) - 127) : ℝ) : EReal) := by
  have h := ofBits_expWord ⟨k, by omega⟩
  simp only [show k ≠ 255 by omega, show k ≠ 0 by omega, if_false] at h
  exact h

/-- Adding up zeros and ones in 32-bit words counts the ones. -/
theorem fold_addi_count {ι : Type} [DecidableEq ι] (s : Finset ι) (p : ι → Bool) :
    Finset.fold IntOp.addi 0#32 (fun k => BitVec.setWidth 32 (BitVec.ofBool (p k))) s = BitVec.ofNat 32 (s.filter (fun k => p k = true)).card := by
  induction s using Finset.induction_on with
  | empty => rfl
  | insert a s ha ih =>
    rw [Finset.fold_insert ha, ih, Finset.filter_insert]
    cases h : p a
    · simp [IntOp.addi]
    · have : a ∉ s.filter (fun k => p k = true) := fun hm => ha (Finset.mem_filter.mp hm).1
      rw [if_pos rfl, Finset.card_insert_of_notMem this]
      simp only [IntOp.addi]
      rw [BitVec.ofNat_add, BitVec.add_comm]
      rfl

/-- If the words not above `v` are exactly those of `k ≤ j`, the count less one is `j`. -/
theorem expField_of_iff (v : EReal) (j : ℕ) (hj : j < 256)
    (h : ∀ k : Fin 256, Ideal.ofBits .f32 (expWord (BitVec.ofNat 32 k.val)) ≤ v ↔ k.val ≤ j) : expField v = BitVec.ofNat 32 j := by
  unfold expField
  rw [fold_addi_count]
  have hc : ((Finset.univ : Finset (Fin 256)).filter fun k => decide (Ideal.ofBits .f32 (expWord (BitVec.ofNat 32 k.val)) ≤ v) = true)
      = Finset.Iic (⟨j, hj⟩ : Fin 256) := by
    ext k
    simp only [Finset.mem_filter, Finset.mem_univ, true_and, decide_eq_true_eq, Finset.mem_Iic]
    exact h k
  rw [hc, Fin.card_Iic]
  simp only [IntOp.subi]
  rw [BitVec.ofNat_add, BitVec.add_sub_cancel]

/-- The exponent field of zero is zero. -/
theorem expField_zero : expField 0 = 0#32 := by
  refine expField_of_iff 0 0 (by norm_num) fun k => ?_
  rw [ofBits_expWord]
  by_cases hk : k.val = 255
  · simp [hk]
  · by_cases hk0 : k.val = 0
    · simp [hk0]
    · simp only [hk, hk0, if_false]
      have : (0 : ℝ) < (2 : ℝ) ^ ((k.val : ℤ) - 127) := by positivity
      constructor
      · intro h; exact absurd (EReal.coe_le_coe_iff.mp h) (not_le.mpr this)
      · intro h; omega

/-- The exponent field of a positive number whose binary logarithm rounds down to `e`. -/
theorem expField_of_pow (v : ℝ) (e : ℤ) (h1 : (2 : ℝ) ^ e ≤ v) (h2 : v < (2 : ℝ) ^ (e + 1)) (he : -126 ≤ e) (he' : e ≤ 126) :
    expField (v : EReal) = BitVec.ofNat 32 (e + 127).toNat := by
  refine expField_of_iff _ _ (by omega) fun k => ?_
  rw [ofBits_expWord]
  by_cases hk : k.val = 255
  · simp [hk]; omega
  · by_cases hk0 : k.val = 0
    · simp only [hk0]
      norm_num
      exact le_trans (by positivity) h1
    · simp only [hk, hk0, if_false]
      rw [EReal.coe_le_coe_iff]
      constructor
      · intro h
        have := (zpow_lt_zpow_iff_right₀ (by norm_num : (1 : ℝ) < 2)).mp (lt_of_le_of_lt h h2)
        omega
      · intro h
        exact le_trans ((zpow_le_zpow_iff_right₀ (by norm_num : (1 : ℝ) < 2)).mpr (by omega)) h1

/-- The kernel's scale and inverse scale at exponent field zero. -/
theorem kerScale_zero : kerScale 0#32 = 1 ∧ kerInv 0#32 = 1 := by
  have h : Ideal.ofBits .f32 (expWord 127#32) = 1 := by
    have := ofBits_expWord_normal 127 (by norm_num) (by norm_num)
    norm_num at this
    exact this
  exact ⟨h, h⟩

/-- The kernel's scale and inverse scale at the exponent field of a number whose binary logarithm rounds down to `e`. -/
theorem kerScale_of_exp (e : ℤ) (he : -126 ≤ e) (he' : e ≤ 125) :
    kerScale (BitVec.ofNat 32 (e + 127).toNat) = (((2 : ℝ) ^ (e + 1) : ℝ) : EReal)
      ∧ kerInv (BitVec.ofNat 32 (e + 127).toNat) = (((2 : ℝ) ^ (-(e + 1)) : ℝ) : EReal) := by
  obtain ⟨n, hn⟩ : ∃ n : ℕ, (e + 127).toNat = n := ⟨_, rfl⟩
  have hn1 : 1 ≤ n := by omega
  have hn2 : n ≤ 252 := by omega
  have hen : e = (n : ℤ) - 127 := by omega
  have hne : BitVec.ofNat 32 n ≠ 0#32 := by
    intro h
    have := congrArg BitVec.toNat h
    simp at this
    omega
  have hc : IntOp.cmpi .eq (BitVec.ofNat 32 n) 0#32 = 0#1 := by
    show BitVec.ofBool (BitVec.ofNat 32 n == 0#32) = 0#1
    rw [beq_eq_false_iff_ne.mpr hne]
    rfl
  have hs : IntOp.addi (BitVec.ofNat 32 n) 1#32 = BitVec.ofNat 32 (n + 1) := by
    simp only [IntOp.addi]; rw [BitVec.ofNat_add]
  have hi : IntOp.subi 253#32 (BitVec.ofNat 32 n) = BitVec.ofNat 32 (253 - n) := by
    simp only [IntOp.subi]
    apply BitVec.eq_of_toNat_eq
    simp
    omega
  rw [hn]
  unfold kerScale kerInv
  rw [hc, hs, hi]
  constructor
  · refine (ofBits_expWord_normal (n + 1) (by omega) (by omega)).trans ?_
    congr 2; push_cast; omega
  · refine (ofBits_expWord_normal (253 - n) (by omega) (by omega)).trans ?_
    congr 2; omega

/-! ## The two sides agree -/

/-- `1 / 448` as a 32-bit float, exactly. -/
theorem ofBits_inv448 : Ideal.ofBits .f32 0x3B124925#32 = ((9586981 * (2 : ℝ) ^ (-32 : ℤ) : ℝ) : EReal) := by
  show Ideal.ieee 8 23 (0x3B124925#32) = _
  unfold Ideal.ieee
  simp only [show (0x3B124925#32).extractLsb' (8 + 23) 1 = 0#1 by decide, show ((0x3B124925#32).extractLsb' 23 8).toNat = 118 by decide,
    show ((0x3B124925#32).extractLsb' 0 23).toNat = 1198373 by decide]
  norm_num

theorem ofBits_low : Ideal.ofBits .f32 0x04E00000#32 = ((7 * (2 : ℝ) ^ (-120 : ℤ) : ℝ) : EReal) := by
  show Ideal.ieee 8 23 (0x04E00000#32) = _
  unfold Ideal.ieee
  simp only [show (0x04E00000#32).extractLsb' (8 + 23) 1 = 0#1 by decide, show ((0x04E00000#32).extractLsb' 23 8).toNat = 9 by decide,
    show ((0x04E00000#32).extractLsb' 0 23).toNat = 6291456 by decide]
  norm_num

theorem ofBits_high : Ideal.ofBits .f32 0x7F7F0000#32 = ((255 * (2 : ℝ) ^ (120 : ℤ) : ℝ) : EReal) := by
  show Ideal.ieee 8 23 (0x7F7F0000#32) = _
  unfold Ideal.ieee
  simp only [show (0x7F7F0000#32).extractLsb' (8 + 23) 1 = 0#1 by decide, show ((0x7F7F0000#32).extractLsb' 23 8).toNat = 254 by decide,
    show ((0x7F7F0000#32).extractLsb' 0 23).toNat = 8323072 by decide]
  norm_num

theorem ofBits_zero : Ideal.ofBits .f32 0x00000000#32 = 0 := by
  show Ideal.ieee 8 23 (0x00000000#32) = _
  unfold Ideal.ieee
  simp

theorem ofBits_one : Ideal.ofBits .f32 0x3F800000#32 = 1 := by
  have := ofBits_expWord_normal 127 (by norm_num) (by norm_num)
  norm_num at this
  exact this

theorem ofBits_two : Ideal.ofBits .f32 0x40000000#32 = ((2 : ℝ) : EReal) := by
  have := ofBits_expWord_normal 128 (by norm_num) (by norm_num)
  norm_num at this
  exact this

/-- The precondition on one row's largest magnitude. -/
def InRange (a : EReal) : Prop := a = 0 ∨ (Ideal.ofBits .f32 0x04E00000#32 ≤ a ∧ a ≤ Ideal.ofBits .f32 0x7F7F0000#32)

/-- The reference's exponent of a zero row. -/
theorem refExponent_zero : refExponent (F := Ideal) (0 : EReal) = 0 := by
  show Scalar.select (Ideal.cmp .oeq (0 : EReal) (Ideal.ofBits .f32 0x00000000#32)) (Ideal.ofBits .f32 0x00000000#32) _ = _
  rw [ofBits_zero]
  simp [Ideal.cmp, Scalar.select]

/-- The reference's exponent of a row whose largest magnitude `a` is positive. -/
theorem refExponent_pos (a : ℝ) (ha : 0 < a) : refExponent (F := Ideal) (a : EReal)
    = (((⌊Real.log (a * (9586981 * (2 : ℝ) ^ (-32 : ℤ))) / Real.log 2⌋ + 1 : ℤ) : ℝ) : EReal) := by
  show Scalar.select (Ideal.cmp .oeq (a : EReal) (Ideal.ofBits .f32 0x00000000#32)) (Ideal.ofBits .f32 0x00000000#32)
    (Ideal.liftRound Int.floor (Ideal.div (Ideal.log ((a : EReal) * Ideal.ofBits .f32 0x3B124925#32)) (Ideal.log (Ideal.ofBits .f32 0x40000000#32)))
      + Ideal.ofBits .f32 0x3F800000#32) = _
  rw [ofBits_zero, ofBits_inv448, ofBits_two, ofBits_one, ← EReal.coe_mul]
  have hv : 0 < a * (9586981 * (2 : ℝ) ^ (-32 : ℤ)) := by positivity
  have hl : Real.log 2 ≠ 0 := (Real.log_pos (by norm_num)).ne'
  have hs : Ideal.cmp .oeq (a : EReal) 0 = 0#1 := by
    simp [Ideal.cmp, ha.ne']
  rw [hs, Ideal.log_coe, if_neg (not_le.mpr hv), Ideal.log_coe, if_neg (by norm_num)]
  unfold Ideal.div
  rw [if_neg (by exact_mod_cast hl), ← EReal.coe_inv, ← EReal.coe_mul, Ideal.liftRound_coe, ← div_eq_mul_inv]
  show _ + ((1 : ℝ) : EReal) = _
  rw [← EReal.coe_add]
  push_cast
  rfl

/-- The kernel's scale and inverse scale are the reference's, for every row in range. -/
theorem scale_agree (a : EReal) (ha : InRange a) :
    kerScale (expField (a * Ideal.ofBits .f32 0x3B124925#32)) = Ideal.exp2 (refExponent (F := Ideal) a)
      ∧ kerInv (expField (a * Ideal.ofBits .f32 0x3B124925#32)) = Ideal.exp2 (Ideal.ofBits .f32 0x00000000#32 - refExponent (F := Ideal) a) := by
  rcases ha with rfl | ⟨h1, h2⟩
  · rw [zero_mul, expField_zero, refExponent_zero, ofBits_zero, sub_zero]
    have h : Ideal.exp2 (0 : EReal) = 1 := by
      show Ideal.exp2 ((0 : ℝ) : EReal) = 1
      rw [Ideal.exp2_coe]
      simp
    rw [h]
    exact kerScale_zero
  · rw [ofBits_low] at h1
    rw [ofBits_high] at h2
    obtain ⟨r, rfl⟩ : ∃ r : ℝ, a = (r : EReal) := by
      refine ⟨a.toReal, (EReal.coe_toReal ?_ ?_).symm⟩
      · rintro rfl; exact absurd h2 (not_le.mpr (EReal.coe_lt_top _))
      · rintro rfl; exact absurd h1 (not_le.mpr (EReal.bot_lt_coe _))
    have h1 := EReal.coe_le_coe_iff.mp h1
    have h2 := EReal.coe_le_coe_iff.mp h2
    have hr : 0 < r := lt_of_lt_of_le (by positivity) h1
    rw [refExponent_pos r hr, ofBits_inv448, ← EReal.coe_mul, ofBits_zero]
    obtain ⟨v, hv⟩ : ∃ v, r * (9586981 * (2 : ℝ) ^ (-32 : ℤ)) = v := ⟨_, rfl⟩
    rw [hv]
    have hv1 : (2 : ℝ) ^ (-126 : ℤ) ≤ v := by
      rw [← hv]
      refine le_trans ?_ (mul_le_mul_of_nonneg_right h1 (by positivity))
      norm_num
    have hv2 : v < (2 : ℝ) ^ (126 : ℤ) := by
      rw [← hv]
      refine lt_of_le_of_lt (mul_le_mul_of_nonneg_right h2 (by positivity)) ?_
      norm_num
    have hv0 : 0 < v := lt_of_lt_of_le (by positivity) hv1
    obtain ⟨e, he1, he2⟩ := exists_mem_Ico_zpow hv0 (by norm_num : (1 : ℝ) < 2)
    have hl : 0 < Real.log 2 := Real.log_pos (by norm_num)
    have he : ⌊Real.log v / Real.log 2⌋ = e := by
      rw [Int.floor_eq_iff, le_div_iff₀ hl, div_lt_iff₀ hl]
      constructor
      · rw [← Real.log_zpow]
        exact Real.log_le_log (by positivity) he1
      · have := Real.log_lt_log hv0 he2
        rw [Real.log_zpow] at this
        exact_mod_cast this
    have hb1 : -126 ≤ e := by
      have := (zpow_lt_zpow_iff_right₀ (by norm_num : (1 : ℝ) < 2)).mp (lt_of_le_of_lt hv1 he2)
      omega
    have hb2 : e ≤ 125 := by
      have := (zpow_lt_zpow_iff_right₀ (by norm_num : (1 : ℝ) < 2)).mp (lt_of_le_of_lt he1 hv2)
      omega
    rw [he, expField_of_pow v e he1 he2 hb1 (by omega), zero_sub, ← EReal.coe_neg, Ideal.exp2_coe, Ideal.exp2_coe]
    obtain ⟨k1, k2⟩ := kerScale_of_exp e hb1 hb2
    rw [k1, k2]
    constructor
    · exact congrArg _ (Real.rpow_intCast 2 (e + 1)).symm
    · rw [← Int.cast_neg]
      exact congrArg _ (Real.rpow_intCast 2 (-(e + 1))).symm

end Cert.Proof
end
-- ==== Proof.Blocks.lean ====
module
public import proofs.«01_k».proof.Proof.Gen.KernelIdeal.Frame
public import proofs.«01_k».proof.Proof.Exponent
public import Idealize.ShloMosaic.Lib.Pointwise
@[expose] public section
set_option maxRecDepth 16384
noncomputable section

/-!
# What the kernel stores in one block, element by element

Each theorem reads one stored value of the kernel over the extended reals at a row and a column.
-/

namespace Cert.Proof

open Idealize.ShloMosaic Idealize.SL.Sem
open Idealize.ShloMosaic.Pointwise
open Cert.KernelIdeal Cert.KernelIdeal.Gen

/-- The largest absolute value in row `r` of a block of activations. -/
def blkMax (x : Vec Ideal S256x1920 .bf16) (r : Fin 256) : EReal :=
  rowMax fun k : Fin 1920 => FloatOps.absf (F := Ideal) (φ := .f32) (x (ix2 r k))

/-- The exponent field the kernel finds for row `r` of a block. -/
def blkField (x : Vec Ideal S256x1920 .bf16) (r : Fin 256) : BitVec 32 :=
  expField (blkMax x r * Ideal.ofBits .f32 0x3B124925#32)

/-- The kernel's exponent payload at row `r`. -/
theorem pay4_at (x : Vec Ideal S256x1920 .bf16) (r : Fin 256) : k1_pay4 x (ix2 r 0) = blkField x r := by
  pointwise [k1_pay4, k1_pay3]
  rfl

/-- The kernel's scale payload at row `r`. -/
theorem pay6_at (x : Vec Ideal S256x1920 .bf16) (r : Fin 256) :
    k1_pay6 x (ix2 r 0) = kerScale (blkField x r) := by
  rw [← pay4_at]
  pointwise [k1_pay6, k1_pay5]
  rfl

/-- The kernel's code payload at row `r`, column `k`. -/
theorem pay7_at (x : Vec Ideal S256x1920 .bf16) (r : Fin 256) (k : Fin 1920) :
    k1_pay7 x (ix2 r k) = min (Ideal.ofBits .f32 0x43E00000#32)
      (max (Ideal.ofBits .f32 0xC3E00000#32) ((x (ix2 r k) : EReal) * kerInv (blkField x r))) := by
  rw [← pay4_at]
  pointwise [k1_pay7, k1_pay5, k1_pay3]
  rfl

/-- The lower half of the dequantised weights: the low four bits of the packed byte. -/
theorem pay4_low (v0 : Vec Ideal S128x5824 .i8) (v2 : Vec Ideal S1x1x11648 .i8) (v6 : Vec Ideal S1x1x11648 .f32)
    (r : Fin 128) (k : Fin 5824) :
    k0_pay4 v0 v2 v6 (ix2 r k) = (FloatOps.sitofp (F := Ideal) .bf16 (IntOp.andi (BitVec.setWidth 32 (v0 (ix2 r k))) 15#32)
      - FloatOps.sitofp (F := Ideal) .bf16 (BitVec.setWidth 32 (v2 (ix3 0 0 (⟨k.val, by omega⟩ : Fin 11648)))) : EReal)
      * v6 (ix3 0 0 (⟨k.val, by omega⟩ : Fin 11648)) := by
  pointwise [k0_pay4, k0_pay1, k0_pay2, k0_pay3]

/-- The upper half of the dequantised weights: the high four bits of the packed byte. -/
theorem pay5_high (v0 : Vec Ideal S128x5824 .i8) (v2 : Vec Ideal S1x1x11648 .i8) (v6 : Vec Ideal S1x1x11648 .f32)
    (r : Fin 128) (k : Fin 5824) :
    k0_pay5 v0 v2 v6 (ix2 r k) = (FloatOps.sitofp (F := Ideal) .bf16 (IntOp.shrsi .vector (BitVec.setWidth 32 (v0 (ix2 r k))) 4#32)
      - FloatOps.sitofp (F := Ideal) .bf16 (BitVec.setWidth 32 (v2 (ix3 0 0 (⟨5824 + k.val, by omega⟩ : Fin 11648)))) : EReal)
      * v6 (ix3 0 0 (⟨5824 + k.val, by omega⟩ : Fin 11648)) := by
  pointwise [k0_pay5, k0_pay1, k0_pay2, k0_pay3]

/-- One 512-wide piece of the output block. -/
theorem pay1_at (s : FVec Ideal S256x1 .f32) (q : FVec Ideal S256x1920 .bf16) (w : Vec Ideal S1920x512 .bf16)
    (ws : Vec Ideal S1x512 .f32) (r : Fin 256) (k : Fin 512) :
    k1_pay1 s q w ws (ix2 r k) = (∑ x : Fin 1920, (q (ix2 r x) : EReal) * w (ix2 x k)) * s (ix2 r 0) * ws (ix2 0 k) := by
  pointwise [k1_pay1]

/-- The last, 384-wide piece of the output block. -/
theorem pay2_at (s : FVec Ideal S256x1 .f32) (q : FVec Ideal S256x1920 .bf16) (w : Vec Ideal S1920x384 .bf16)
    (ws : Vec Ideal S1x384 .f32) (r : Fin 256) (k : Fin 384) :
    k1_pay2 s q w ws (ix2 r k) = (∑ x : Fin 1920, (q (ix2 r x) : EReal) * w (ix2 x k)) * s (ix2 r 0) * ws (ix2 0 k) := by
  pointwise [k1_pay2]

/-- The stored scales: the column of scales laid along the lanes. -/
theorem pay8_at (s : FVec Ideal S256x1 .f32) (r : Fin 256) : k1_pay8 s (ix3 0 0 r) = s (ix2 r 0) := by
  pointwise [k1_pay8]
  refine (Finset.sum_eq_single r (fun x _ hx => ?_) (fun h => absurd (Finset.mem_univ r) h)).trans ?_
  · have hne : BitVec.ofNat 32 x.val ≠ BitVec.ofNat 32 r.val := fun e => hx <| Fin.ext <| by
      have := congrArg BitVec.toNat e
      simp only [BitVec.toNat_ofNat] at this
      omega
    rw [show IntOp.cmpi CmpIPredicate.eq (BitVec.ofNat 32 x.val) (BitVec.ofNat 32 r.val) = 0#1 from by
      show BitVec.ofBool (BitVec.ofNat 32 x.val == BitVec.ofNat 32 r.val) = 0#1
      rw [beq_false_of_ne hne]; rfl]
    rfl
  · rw [show IntOp.cmpi CmpIPredicate.eq (BitVec.ofNat 32 r.val) (BitVec.ofNat 32 r.val) = 1#1 from by
      simp [IntOp.cmpi]]
    rfl

end Cert.Proof

end
-- ==== Proof.Region0.lean ====
module
public import proofs.«01_k».proof.Proof.Blocks
@[expose] public section
set_option maxRecDepth 16384
noncomputable section

/-!
# The dequantised weights the first grid leaves
-/

namespace Cert.Proof

open Idealize.ShloMosaic Idealize.ShloMosaic.TcCoe
open Idealize.SL Idealize.SL.Sem
open Idealize.ShloMosaic.Pointwise
open Cert.KernelIdeal Cert.KernelIdeal.Gen

/-- The dequantised weight at row `x`, column `n`, from the packed bytes, the zero points and the group scales. -/
def kerWeight (wp : Vec Ideal S1920x5824 .i8) (zr : Vec Ideal S15x1x11648 .i8) (gs : Vec Ideal S15x1x11648 .f32)
    (x : Fin 1920) (n : Fin 11648) : EReal :=
  ((if h : n.val < 5824 then
      FloatOps.sitofp (F := Ideal) .bf16 (IntOp.andi (BitVec.setWidth 32 (wp (ix2 x (⟨n.val, h⟩ : Fin 5824)))) 15#32)
    else
      FloatOps.sitofp (F := Ideal) .bf16 (IntOp.shrsi .vector (BitVec.setWidth 32 (wp (ix2 x (⟨n.val - 5824, by omega⟩ : Fin 5824)))) 4#32))
    - FloatOps.sitofp (F := Ideal) .bf16 (BitVec.setWidth 32 (zr (ix3 (⟨x.val / 128, by omega⟩ : Fin 15) 0 n))) : EReal)
    * gs (ix3 (⟨x.val / 128, by omega⟩ : Fin 15) 0 n)

/-- The same as an array. -/
def kerWeights (wp : Vec Ideal S1920x5824 .i8) (zr : Vec Ideal S15x1x11648 .i8) (gs : Vec Ideal S15x1x11648 .f32) :
    Vec Ideal S1920x11648 .bf16 := fun i => kerWeight wp zr gs (i 0) (i 1)

/-- Row `r` of block `t` as a row of the weights. -/
abbrev wRow (t : Fin cfg0.N) (r : Fin 128) : Fin 1920 := ⟨t.val * 128 + r.val, by
  have : t.val < 15 := t.isLt
  omega⟩

/-- The block index of each window of the first grid at point `t` is `t` along the first axis and zero on the others. -/
theorem index0 : ∀ t : Fin cfg0.N,
    (win0_0.index t (0 : Fin 2) = t.val ∧ win0_0.index t (1 : Fin 2) = 0) ∧
    (win0_1.index t (0 : Fin 3) = t.val ∧ win0_1.index t (1 : Fin 3) = 0 ∧ win0_1.index t (2 : Fin 3) = 0) ∧
    (win0_2.index t (0 : Fin 3) = t.val ∧ win0_2.index t (1 : Fin 3) = 0 ∧ win0_2.index t (2 : Fin 3) = 0) ∧
    (win0_3.index t (0 : Fin 2) = t.val ∧ win0_3.index t (1 : Fin 2) = 0) :=
  (by decide +kernel : ∀ t : Fin grid0.N, _)

/-- Where an index of the packed weights' block lies in their array. -/
theorem emb0_0 (t : Fin cfg0.N) (r : Fin 128) (k : Fin 5824) :
    ((cfg0.win 0).blk t).view.emb (ix2 r k) = ix2 (wRow t r) k := by
  obtain ⟨⟨e0, e1⟩, -⟩ := index0 t
  funext a; apply Fin.ext
  match a with
  | ⟨0, _⟩ => show win0_0.index t (0 : Fin 2) * 128 + 1 * r.val = t.val * 128 + r.val; omega
  | ⟨1, _⟩ => show win0_0.index t (1 : Fin 2) * 5824 + 1 * k.val = k.val; omega

/-- Where an index of the zero points' block lies in their array. -/
theorem emb0_1 (t : Fin cfg0.N) (n : Fin 11648) :
    ((cfg0.win 1).blk t).view.emb (ix3 (0 : Fin 1) (0 : Fin 1) n) = ix3 (⟨t.val, t.isLt⟩ : Fin 15) (0 : Fin 1) n := by
  obtain ⟨-, ⟨e0, e1, e2⟩, -⟩ := index0 t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 11648 + 1 * n.val = n.val; omega

/-- Where an index of the group scales' block lies in their array. -/
theorem emb0_2 (t : Fin cfg0.N) (n : Fin 11648) :
    ((cfg0.win 2).blk t).view.emb (ix3 (0 : Fin 1) (0 : Fin 1) n) = ix3 (⟨t.val, t.isLt⟩ : Fin 15) (0 : Fin 1) n := by
  obtain ⟨-, -, ⟨e0, e1, e2⟩, -⟩ := index0 t
  funext a; apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 11648 + 1 * n.val = n.val; omega

/-- Where an index of the weights' block lies in their array. -/
theorem emb0_3 (t : Fin cfg0.N) (r : Fin 128) (n : Fin 11648) :
    ((cfg0.win 3).blk t).view.emb (ix2 r n) = ix2 (wRow t r) n := by
  obtain ⟨-, -, -, ⟨e0, e1⟩⟩ := index0 t
  funext a; apply Fin.ext
  match a with
  | ⟨0, _⟩ => show win0_3.index t (0 : Fin 2) * 128 + 1 * r.val = t.val * 128 + r.val; omega
  | ⟨1, _⟩ => show win0_3.index t (1 : Fin 2) * 11648 + 1 * n.val = n.val; omega

/-- The value a block of weights holds at row `r`, column `n`, from the three input blocks. -/
def blkWeight (x0 : Vec Ideal S128x5824 .i8) (x1 : Vec Ideal S1x1x11648 .i8) (x2 : Vec Ideal S1x1x11648 .f32)
    (r : Fin 128) (n : Fin 11648) : EReal :=
  ((if h : n.val < 5824 then
      FloatOps.sitofp (F := Ideal) .bf16 (IntOp.andi (BitVec.setWidth 32 (x0 (ix2 r (⟨n.val, h⟩ : Fin 5824)))) 15#32)
    else
      FloatOps.sitofp (F := Ideal) .bf16 (IntOp.shrsi .vector (BitVec.setWidth 32 (x0 (ix2 r (⟨n.val - 5824, by omega⟩ : Fin 5824)))) 4#32))
    - FloatOps.sitofp (F := Ideal) .bf16 (BitVec.setWidth 32 (x1 (ix3 0 0 n))) : EReal)
    * x2 (ix3 0 0 n)

/-- What the body leaves in the weights' block. -/
theorem out0_3_at (x0 : Vec Ideal S128x5824 .i8) (x1 : Vec Ideal S1x1x11648 .i8) (x2 : Vec Ideal S1x1x11648 .f32)
    (r : Fin 128) (n : Fin 11648) : out0_3 x0 x1 x2 (ix2 r n) = blkWeight x0 x1 x2 r n := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_3
  rw [View.ld_unit_zero (Val := Elt Ideal) hz2, View.ld_unit_zero (Val := Elt Ideal) hz3, View.ld_unit_zero (Val := Elt Ideal) hz3]
  refine View.canon_apply_of_pieces (Val := Elt Ideal) (S := S128x11648) (fun y => blkWeight x0 x1 x2 (y 0) (y 1)) _
    (List.forall_mem_cons.2 ⟨fun j => ?_, List.forall_mem_cons.2 ⟨fun j => ?_, fun _ h => absurd h List.not_mem_nil⟩⟩)
    (ix2 r n) (cover0_3 _ _ _)
  · obtain ⟨p, k, rfl⟩ : ∃ (p : Fin 128) (k : Fin 5824), j = ix2 p k := ⟨j 0, j 1, eq_ix2 j⟩
    refine (pay5_high x0 x1 x2 p k).trans ?_
    have e : r0_3.emb (ix2 p k) = ix2 p (⟨5824 + k.val, by omega⟩ : Fin 11648) := by
      funext a; apply Fin.ext
      match a with
      | ⟨0, _⟩ => show 0 + 1 * p.val = p.val; omega
      | ⟨1, _⟩ => show 5824 + 1 * k.val = 5824 + k.val; omega
    show _ = blkWeight x0 x1 x2 (r0_3.emb (ix2 p k) 0) (r0_3.emb (ix2 p k) 1)
    rw [e]
    show _ = blkWeight x0 x1 x2 p (⟨5824 + k.val, by omega⟩ : Fin 11648)
    unfold blkWeight
    rw [dif_neg (by show ¬ 5824 + k.val < 5824; omega)]
    rw [show (⟨(⟨5824 + k.val, by omega⟩ : Fin 11648).val - 5824, by omega⟩ : Fin 5824) = k from
      Fin.ext (by show 5824 + k.val - 5824 = k.val; omega)]
  · obtain ⟨p, k, rfl⟩ : ∃ (p : Fin 128) (k : Fin 5824), j = ix2 p k := ⟨j 0, j 1, eq_ix2 j⟩
    refine (pay4_low x0 x1 x2 p k).trans ?_
    have e : r0_2.emb (ix2 p k) = ix2 p (⟨k.val, by omega⟩ : Fin 11648) := by
      funext a; apply Fin.ext
      match a with
      | ⟨0, _⟩ => show 0 + 1 * p.val = p.val; omega
      | ⟨1, _⟩ => show 0 + 1 * k.val = k.val; omega
    show _ = blkWeight x0 x1 x2 (r0_2.emb (ix2 p k) 0) (r0_2.emb (ix2 p k) 1)
    rw [e]
    show _ = blkWeight x0 x1 x2 p (⟨k.val, by omega⟩ : Fin 11648)
    unfold blkWeight
    rw [dif_pos (show (⟨k.val, by omega⟩ : Fin 11648).val < 5824 from k.isLt)]

variable (V : (c : Dev nD) → (b : Ref sig .tc) → Buf (Elt Ideal) ((c : Thread nD τ).loc b))

/-- What point `t` writes back is its block of the dequantised weights. -/
theorem flushed0_3 (c : Dev nD) (t : Fin cfg0.N) :
    (dat0 V c).flushed 3 t = ((cfg0.win 3).blk t).view.read (Elt Ideal)
      (kerWeights (V c main_arg1) (V c main_v0) (V c main_v1)) := by
  show (cfg0.win 3).cut (grid0.coords t) ((dat0 V c).after 3 t) = _
  rw [after0_3]
  funext j
  obtain ⟨r, n, rfl⟩ : ∃ (r : Fin 128) (n : Fin 11648), j = ix2 r n := ⟨j 0, j 1, eq_ix2 j⟩
  show out0_3 (iblk0 V c 0 t) (iblk0 V c 1 t) (iblk0 V c 2 t) (ix2 r n)
    = kerWeights (V c main_arg1) (V c main_v0) (V c main_v1) (((cfg0.win 3).blk t).view.emb (ix2 r n))
  rw [emb0_3, out0_3_at]
  show blkWeight _ _ _ r n = kerWeight _ _ _ (wRow t r) n
  have a0 : ∀ k : Fin 5824, iblk0 V c 0 t (ix2 r k) = V c main_arg1 (ix2 (wRow t r) k) := fun k =>
    congrArg (V c main_arg1) (emb0_0 t r k)
  have hd : (⟨(wRow t r).val / 128, by omega⟩ : Fin 15) = ⟨t.val, t.isLt⟩ :=
    Fin.ext (by show (t.val * 128 + r.val) / 128 = t.val; omega)
  have a1 : iblk0 V c 1 t (ix3 (0 : Fin 1) (0 : Fin 1) n) = V c main_v0 (ix3 (⟨t.val, t.isLt⟩ : Fin 15) (0 : Fin 1) n) :=
    congrArg (V c main_v0) (emb0_1 t n)
  have a2 : iblk0 V c 2 t (ix3 (0 : Fin 1) (0 : Fin 1) n) = V c main_v1 (ix3 (⟨t.val, t.isLt⟩ : Fin 15) (0 : Fin 1) n) :=
    congrArg (V c main_v1) (emb0_2 t n)
  unfold blkWeight kerWeight
  rw [hd]
  by_cases h : n.val < 5824
  · rw [dif_pos h, dif_pos h, a0, a1, a2]
  · rw [dif_neg h, dif_neg h, a0, a1, a2]

/-- Every weight is in some point's block. -/
theorem covered0_3 (i : S1920x11648.Idx) :
    ∃ t : Fin cfg0.N, (cfg0.win 3).flush t = true ∧ i ∈ ((cfg0.win 3).blk t).view.set := by
  obtain ⟨x, n, rfl⟩ : ∃ (x : Fin 1920) (n : Fin 11648), i = ix2 x n := ⟨i 0, i 1, eq_ix2 i⟩
  refine ⟨(⟨x.val / 128, by show x.val / 128 < 15; omega⟩ : Fin cfg0.N), flush0_3 _, ?_⟩
  have h := ((cfg0.win 3).blk (⟨x.val / 128, by show x.val / 128 < 15; omega⟩ : Fin cfg0.N)).view.emb_mem_set
    (ix2 (⟨x.val % 128, by omega⟩ : Fin 128) n)
  rw [emb0_3] at h
  rwa [show wRow (⟨x.val / 128, by show x.val / 128 < 15; omega⟩ : Fin cfg0.N) ⟨x.val % 128, by omega⟩ = x from
    Fin.ext (by show x.val / 128 * 128 + x.val % 128 = x.val; omega)] at h

/-- The weights after the first grid. -/
theorem final0_3 (c : Dev nD) : (dat0 V c).arrAt 3 cfg0.N = kerWeights (V c main_arg1) (V c main_v0) (V c main_v1) :=
  (dat0 V c).arrAt_eq_of_cover 3 (kerWeights (V c main_arg1) (V c main_v0) (V c main_v1))
    (fun t _ => flushed0_3 V c t) covered0_3

end Cert.Proof

end
-- ==== Proof.BlockOut.lean ====
module
public import proofs.«01_k».proof.Proof.Blocks
@[expose] public section
set_option maxRecDepth 16384
noncomputable section

/-!
# What the second grid's body leaves in its three output blocks
-/

namespace Cert.Proof

open Idealize.ShloMosaic Idealize.ShloMosaic.TcCoe
open Idealize.SL Idealize.SL.Sem
open Idealize.ShloMosaic.Pointwise
open Cert.KernelIdeal Cert.KernelIdeal.Gen

/-- The 512-wide column pieces stay inside an array of 11648 columns. -/
theorem inbCols (a : Nat) (j : Fin 22) :
    ∀ d, (![0, 512 * j.val] : Fin 2 → Nat) d + (⟨2, ![a, 512]⟩ : Shape).size d ≤ (⟨2, ![a, 11648]⟩ : Shape).size d := by
  intro d
  match d with
  | ⟨0, _⟩ => show 0 + a ≤ a; omega
  | ⟨1, _⟩ => show 512 * j.val + 512 ≤ 11648; omega

/-- The last, 384-wide column piece stays inside an array of 11648 columns. -/
theorem inbLast (a : Nat) :
    ∀ d, (![0, 11264] : Fin 2 → Nat) d + (⟨2, ![a, 384]⟩ : Shape).size d ≤ (⟨2, ![a, 11648]⟩ : Shape).size d := by
  intro d
  match d with
  | ⟨0, _⟩ => show 0 + a ≤ a; omega
  | ⟨1, _⟩ => show 11264 + 384 ≤ 11648; omega

/-- The 512-wide columns `512 j …` of an array of `a` rows. -/
abbrev cols (a : Nat) (j : Fin 22) : Rect ⟨2, ![a, 11648]⟩ :=
  Rect.unit (s := ⟨2, ![a, 11648]⟩) ![0, 512 * j.val] (⟨2, ![a, 512]⟩ : Shape).size (inbCols a j)

/-- The last 384 columns of an array of `a` rows. -/
abbrev lastCols (a : Nat) : Rect ⟨2, ![a, 11648]⟩ :=
  Rect.unit (s := ⟨2, ![a, 11648]⟩) ![0, 11264] (⟨2, ![a, 384]⟩ : Shape).size (inbLast a)

/-- Where row `r`, column `k` of piece `j` lies. -/
theorem cols_emb (a : Nat) (j : Fin 22) (r : Fin a) (k : Fin 512) :
    (cols a j).emb (ix2 r k) = ix2 r (⟨512 * j.val + k.val, by omega⟩ : Fin 11648) := by
  funext d; apply Fin.ext
  match d with
  | ⟨0, _⟩ => show 0 + 1 * r.val = r.val; omega
  | ⟨1, _⟩ => show 512 * j.val + 1 * k.val = 512 * j.val + k.val; omega

/-- Where row `r`, column `k` of the last piece lies. -/
theorem lastCols_emb (a : Nat) (r : Fin a) (k : Fin 384) :
    (lastCols a).emb (ix2 r k) = ix2 r (⟨11264 + k.val, by omega⟩ : Fin 11648) := by
  funext d; apply Fin.ext
  match d with
  | ⟨0, _⟩ => show 0 + 1 * r.val = r.val; omega
  | ⟨1, _⟩ => show 11264 + 1 * k.val = 11264 + k.val; omega

section Generic

variable {F : FTy → Type} [FloatOps F]

/-- What the body loads of its block of activations. -/
abbrev actLoad (arg1 : Memref sig .tc .vmem S256x1920 .bf16) (harg1 : arg1.IsWhole) (x0 : Vec F S256x1920 .bf16) : Vec F S256x1920 .bf16 :=
  View.readAt (Elt F) arg1.view (Rect.unit (s := S256x1920) ![0, 0] S256x1920.size inb_S256x1920_S256x1920_0_0).toLoadRect (harg1.unread x0)

/-- The stores of the output block: the last piece, and before it the 22 pieces of 512 columns, all of one form. -/
theorem pieces3 (c : Dev nD) (i : grid1.Coords) (arg1 : Memref sig .tc .vmem S256x1920 .bf16) (harg1 : arg1.IsWhole)
    (arg2 : Memref sig .tc .vmem S1920x11648 .bf16) (harg2 : arg2.IsWhole) (arg3 : Memref sig .tc .vmem S1x11648 .f32) (harg3 : arg3.IsWhole)
    (arg4 : Memref sig .tc .vmem S256x11648 .bf16) (harg4 : arg4.IsWhole) (arg5 : Memref sig .tc .vmem S256x1920 .fp8e4m3) (harg5 : arg5.IsWhole)
    (arg6 : Memref sig .tc .vmem S1x1x256 .f32) (harg6 : arg6.IsWhole)
    (x0 : Vec F S256x1920 .bf16) (x1 : Vec F S1920x11648 .bf16) (x2 : Vec F S1x11648 .f32) :
    (kernelRun1_A c i arg1 harg1 arg2 harg2 arg3 harg3 arg4 harg4 arg5 harg5 arg6 harg6 x0 x1 x2).1 =
      (⟨lastCols 256, k1_pay2 (k1_pay6 (actLoad arg1 harg1 x0)) (k1_pay9 (k1_pay7 (actLoad arg1 harg1 x0)))
          (View.readAt (Elt F) arg2.view (lastCols 1920).toLoadRect (harg2.unread x1))
          (View.readAt (Elt F) arg3.view (lastCols 1).toLoadRect (harg3.unread x2))⟩ : View.Piece (Elt F) S256x11648 .bf16) ::
      ([21, 20, 19, 18, 17, 16, 15, 14, 13, 12, 11, 10, 9, 8, 7, 6, 5, 4, 3, 2, 1, 0] : List (Fin 22)).map fun j =>
        (⟨cols 256 j, k1_pay1 (k1_pay6 (actLoad arg1 harg1 x0)) (k1_pay9 (k1_pay7 (actLoad arg1 harg1 x0)))
          (View.readAt (Elt F) arg2.view (cols 1920 j).toLoadRect (harg2.unread x1))
          (View.readAt (Elt F) arg3.view (cols 1 j).toLoadRect (harg3.unread x2))⟩ : View.Piece (Elt F) S256x11648 .bf16) := rfl

/-- The one store of the codes. -/
theorem pieces4 (c : Dev nD) (i : grid1.Coords) (arg1 : Memref sig .tc .vmem S256x1920 .bf16) (harg1 : arg1.IsWhole)
    (arg2 : Memref sig .tc .vmem S1920x11648 .bf16) (harg2 : arg2.IsWhole) (arg3 : Memref sig .tc .vmem S1x11648 .f32) (harg3 : arg3.IsWhole)
    (arg4 : Memref sig .tc .vmem S256x11648 .bf16) (harg4 : arg4.IsWhole) (arg5 : Memref sig .tc .vmem S256x1920 .fp8e4m3) (harg5 : arg5.IsWhole)
    (arg6 : Memref sig .tc .vmem S1x1x256 .f32) (harg6 : arg6.IsWhole)
    (x0 : Vec F S256x1920 .bf16) (x1 : Vec F S1920x11648 .bf16) (x2 : Vec F S1x11648 .f32) :
    (kernelRun1_A c i arg1 harg1 arg2 harg2 arg3 harg3 arg4 harg4 arg5 harg5 arg6 harg6 x0 x1 x2).2.1 =
      [⟨Rect.unit (s := S256x1920) ![0, 0] S256x1920.size inb_S256x1920_S256x1920_0_0, k1_pay7 (actLoad arg1 harg1 x0)⟩] := rfl

/-- The one store of the scales. -/
theorem pieces5 (c : Dev nD) (i : grid1.Coords) (arg1 : Memref sig .tc .vmem S256x1920 .bf16) (harg1 : arg1.IsWhole)
    (arg2 : Memref sig .tc .vmem S1920x11648 .bf16) (harg2 : arg2.IsWhole) (arg3 : Memref sig .tc .vmem S1x11648 .f32) (harg3 : arg3.IsWhole)
    (arg4 : Memref sig .tc .vmem S256x11648 .bf16) (harg4 : arg4.IsWhole) (arg5 : Memref sig .tc .vmem S256x1920 .fp8e4m3) (harg5 : arg5.IsWhole)
    (arg6 : Memref sig .tc .vmem S1x1x256 .f32) (harg6 : arg6.IsWhole)
    (x0 : Vec F S256x1920 .bf16) (x1 : Vec F S1920x11648 .bf16) (x2 : Vec F S1x11648 .f32) :
    (kernelRun1_A c i arg1 harg1 arg2 harg2 arg3 harg3 arg4 harg4 arg5 harg5 arg6 harg6 x0 x1 x2).2.2.1 =
      [⟨Rect.unit (s := S1x1x256) ![0, 0, 0] S1x1x256.size inb_S1x1x256_S1x1x256_0_0_0, k1_pay8 (k1_pay6 (actLoad arg1 harg1 x0))⟩] := rfl

/-- The load of the activations is the whole block. -/
theorem actLoad_eq (arg1 : Memref sig .tc .vmem S256x1920 .bf16) (harg1 : arg1.IsWhole) (x0 : Vec F S256x1920 .bf16) :
    actLoad arg1 harg1 x0 = x0 := by
  have hz2 : (![0, 0] : Fin 2 → Nat) = fun _ => 0 := funext fun a => by fin_cases a <;> rfl
  unfold actLoad
  rw [View.readAt_eq_ld, Memref.IsWhole.read_unread, View.ld_unit_zero (Val := Elt F) hz2]

end Generic

/-- The output block at row `r`, column `n`: the product of the codes and the weights, times the row's scale and the
    column's scale. -/
def blkOut (x0 : Vec Ideal S256x1920 .bf16) (x1 : Vec Ideal S1920x11648 .bf16) (x2 : Vec Ideal S1x11648 .f32)
    (r : Fin 256) (n : Fin 11648) : EReal :=
  (∑ x : Fin 1920, (k1_pay7 x0 (ix2 r x) : EReal) * x1 (ix2 x n)) * k1_pay6 x0 (ix2 r 0) * x2 (ix2 0 n)

/-- What the body leaves in the output block. -/
theorem out3_at (c : Dev nD) (i : grid1.Coords) (arg1 : Memref sig .tc .vmem S256x1920 .bf16) (harg1 : arg1.IsWhole)
    (arg2 : Memref sig .tc .vmem S1920x11648 .bf16) (harg2 : arg2.IsWhole) (arg3 : Memref sig .tc .vmem S1x11648 .f32) (harg3 : arg3.IsWhole)
    (arg4 : Memref sig .tc .vmem S256x11648 .bf16) (harg4 : arg4.IsWhole) (arg5 : Memref sig .tc .vmem S256x1920 .fp8e4m3) (harg5 : arg5.IsWhole)
    (arg6 : Memref sig .tc .vmem S1x1x256 .f32) (harg6 : arg6.IsWhole)
    (x0 : Vec Ideal S256x1920 .bf16) (x1 : Vec Ideal S1920x11648 .bf16) (x2 : Vec Ideal S1x11648 .f32)
    (r : Fin 256) (n : Fin 11648) : out1_A_3 c i arg1 harg1 arg2 harg2 arg3 harg3 arg4 harg4 arg5 harg5 arg6 harg6 x0 x1 x2 (ix2 r n) = blkOut x0 x1 x2 r n := by
  unfold out1_A_3
  refine View.read_writes_apply_of_pieces (Val := Elt Ideal) (s := S256x11648) _ _ (fun y => blkOut x0 x1 x2 (y 0) (y 1)) _ ?_
    (ix2 r n) (cover1_A_3 c i arg1 harg1 arg2 harg2 arg3 harg3 arg4 harg4 arg5 harg5 arg6 harg6 x0 x1 x2 _)
  rw [pieces3, actLoad_eq]
  refine List.forall_mem_cons.2 ⟨fun y => ?_, fun p hp y => ?_⟩
  · obtain ⟨r, k, rfl⟩ : ∃ (r : Fin 256) (k : Fin 384), y = ix2 r k := ⟨y 0, y 1, eq_ix2 y⟩
    refine (pay2_at _ _ _ _ r k).trans ?_
    show _ = blkOut x0 x1 x2 ((lastCols 256).emb (ix2 r k) 0) ((lastCols 256).emb (ix2 r k) 1)
    rw [lastCols_emb]
    rw [View.readAt_eq_ld, Memref.IsWhole.read_unread, View.readAt_eq_ld, Memref.IsWhole.read_unread]
    have e1 : ∀ x : Fin 1920, View.ld (Val := Elt Ideal) x1 (lastCols 1920) (ix2 x k) = x1 (ix2 x (⟨11264 + k.val, by omega⟩ : Fin 11648)) :=
      fun x => congrArg x1 (lastCols_emb 1920 x k)
    have e2 : View.ld (Val := Elt Ideal) x2 (lastCols 1) (ix2 0 k) = x2 (ix2 0 (⟨11264 + k.val, by omega⟩ : Fin 11648)) :=
      congrArg x2 (lastCols_emb 1 0 k)
    rw [e2, Finset.sum_congr rfl fun x _ => by rw [e1 x]]
    rfl
  · obtain ⟨j, -, rfl⟩ := List.mem_map.1 hp
    obtain ⟨r, k, rfl⟩ : ∃ (r : Fin 256) (k : Fin 512), y = ix2 r k := ⟨y 0, y 1, eq_ix2 y⟩
    refine (pay1_at _ _ _ _ r k).trans ?_
    show _ = blkOut x0 x1 x2 ((cols 256 j).emb (ix2 r k) 0) ((cols 256 j).emb (ix2 r k) 1)
    rw [cols_emb]
    rw [View.readAt_eq_ld, Memref.IsWhole.read_unread, View.readAt_eq_ld, Memref.IsWhole.read_unread]
    have e1 : ∀ x : Fin 1920, View.ld (Val := Elt Ideal) x1 (cols 1920 j) (ix2 x k) = x1 (ix2 x (⟨512 * j.val + k.val, by omega⟩ : Fin 11648)) :=
      fun x => congrArg x1 (cols_emb 1920 j x k)
    have e2 : View.ld (Val := Elt Ideal) x2 (cols 1 j) (ix2 0 k) = x2 (ix2 0 (⟨512 * j.val + k.val, by omega⟩ : Fin 11648)) :=
      congrArg x2 (cols_emb 1 j 0 k)
    rw [e2, Finset.sum_congr rfl fun x _ => by rw [e1 x]]
    rfl

/-- What the body leaves in the block of codes. -/
theorem out4_eq (c : Dev nD) (i : grid1.Coords) (arg1 : Memref sig .tc .vmem S256x1920 .bf16) (harg1 : arg1.IsWhole)
    (arg2 : Memref sig .tc .vmem S1920x11648 .bf16) (harg2 : arg2.IsWhole) (arg3 : Memref sig .tc .vmem S1x11648 .f32) (harg3 : arg3.IsWhole)
    (arg4 : Memref sig .tc .vmem S256x11648 .bf16) (harg4 : arg4.IsWhole) (arg5 : Memref sig .tc .vmem S256x1920 .fp8e4m3) (harg5 : arg5.IsWhole)
    (arg6 : Memref sig .tc .vmem S1x1x256 .f32) (harg6 : arg6.IsWhole)
    (x0 : Vec Ideal S256x1920 .bf16) (x1 : Vec Ideal S1920x11648 .bf16) (x2 : Vec Ideal S1x11648 .f32) :
    out1_A_4 c i arg1 harg1 arg2 harg2 arg3 harg3 arg4 harg4 arg5 harg5 arg6 harg6 x0 x1 x2 = k1_pay7 x0 := by
  have hz2 : (![0, 0] : Fin 2 → Nat) = fun _ => 0 := funext fun a => by fin_cases a <;> rfl
  unfold out1_A_4
  rw [View.read_writes_eq_canon _ _ _ (cover1_A_4 c i arg1 harg1 arg2 harg2 arg3 harg3 arg4 harg4 arg5 harg5 arg6 harg6 x0 x1 x2), pieces4, actLoad_eq, View.canon_unit_zero hz2]

/-- What the body leaves in the block of scales. -/
theorem out5_eq (c : Dev nD) (i : grid1.Coords) (arg1 : Memref sig .tc .vmem S256x1920 .bf16) (harg1 : arg1.IsWhole)
    (arg2 : Memref sig .tc .vmem S1920x11648 .bf16) (harg2 : arg2.IsWhole) (arg3 : Memref sig .tc .vmem S1x11648 .f32) (harg3 : arg3.IsWhole)
    (arg4 : Memref sig .tc .vmem S256x11648 .bf16) (harg4 : arg4.IsWhole) (arg5 : Memref sig .tc .vmem S256x1920 .fp8e4m3) (harg5 : arg5.IsWhole)
    (arg6 : Memref sig .tc .vmem S1x1x256 .f32) (harg6 : arg6.IsWhole)
    (x0 : Vec Ideal S256x1920 .bf16) (x1 : Vec Ideal S1920x11648 .bf16) (x2 : Vec Ideal S1x11648 .f32) :
    out1_A_5 c i arg1 harg1 arg2 harg2 arg3 harg3 arg4 harg4 arg5 harg5 arg6 harg6 x0 x1 x2 = k1_pay8 (k1_pay6 x0) := by
  have hz3 : (![0, 0, 0] : Fin 3 → Nat) = fun _ => 0 := funext fun a => by fin_cases a <;> rfl
  unfold out1_A_5
  rw [View.read_writes_eq_canon _ _ _ (cover1_A_5 c i arg1 harg1 arg2 harg2 arg3 harg3 arg4 harg4 arg5 harg5 arg6 harg6 x0 x1 x2), pieces5, actLoad_eq, View.canon_unit_zero hz3]

end Cert.Proof

end
-- ==== Proof.Region1.lean ====
module
public import proofs.«01_k».proof.Proof.BlockOut
@[expose] public section
set_option maxRecDepth 16384
noncomputable section

/-!
# The three arrays the second grid leaves
-/

namespace Cert.Proof

open Idealize.ShloMosaic Idealize.ShloMosaic.TcCoe
open Idealize.SL Idealize.SL.Sem
open Idealize.ShloMosaic.Pointwise
open Cert.KernelIdeal Cert.KernelIdeal.Gen

/-- The exponent field the kernel finds for row `R` of the activations. -/
def rowField (X : Vec Ideal S32768x1920 .bf16) (R : Fin 32768) : BitVec 32 :=
  expField ((rowMax fun k : Fin 1920 => FloatOps.absf (F := Ideal) (φ := .f32) (X (ix2 R k))) * Ideal.ofBits .f32 0x3B124925#32)

/-- The kernel's code at row `R`, column `k`. -/
def codeAt (X : Vec Ideal S32768x1920 .bf16) (R : Fin 32768) (k : Fin 1920) : EReal :=
  min (Ideal.ofBits .f32 0x43E00000#32)
    (max (Ideal.ofBits .f32 0xC3E00000#32) ((X (ix2 R k) : EReal) * kerInv (rowField X R)))

/-- The kernel's output at row `R`, column `n`. -/
def outAt (X : Vec Ideal S32768x1920 .bf16) (W : Vec Ideal S1920x11648 .bf16) (S : Vec Ideal S1x11648 .f32)
    (R : Fin 32768) (n : Fin 11648) : EReal :=
  (∑ x : Fin 1920, codeAt X R x * W (ix2 x n)) * kerScale (rowField X R) * S (ix2 0 n)

/-- Row `r` of block `t` as a row of the activations. -/
abbrev xRow (t : Fin cfg1.N) (r : Fin 256) : Fin 32768 := ⟨t.val * 256 + r.val, by
  have : t.val < 128 := t.isLt
  omega⟩

/-- The output array, the codes and the scales, as arrays. -/
def outArr (X : Vec Ideal S32768x1920 .bf16) (W : Vec Ideal S1920x11648 .bf16) (S : Vec Ideal S1x11648 .f32) :
    Vec Ideal S32768x11648 .bf16 := fun i => outAt X W S (i 0) (i 1)
@[inherit_doc outArr] def codeArr (X : Vec Ideal S32768x1920 .bf16) : Vec Ideal S32768x1920 .fp8e4m3 := fun i => codeAt X (i 0) (i 1)
@[inherit_doc outArr] def scaleArr (X : Vec Ideal S32768x1920 .bf16) : Vec Ideal S128x1x256 .f32 := fun i => kerScale (rowField X (xRow (i 0) (i 2)))

/-- The block index of each window of the second grid at point `t`: `t` along the first axis of the activations and of
    the three results, zero elsewhere. -/
theorem index1 : ∀ t : Fin cfg1.N,
    (win1_0.index t (0 : Fin 2) = t.val ∧ win1_0.index t (1 : Fin 2) = 0) ∧
    (win1_1.index t (0 : Fin 2) = 0 ∧ win1_1.index t (1 : Fin 2) = 0) ∧
    (win1_2.index t (0 : Fin 2) = 0 ∧ win1_2.index t (1 : Fin 2) = 0) ∧
    (win1_3.index t (0 : Fin 2) = t.val ∧ win1_3.index t (1 : Fin 2) = 0) ∧
    (win1_4.index t (0 : Fin 2) = t.val ∧ win1_4.index t (1 : Fin 2) = 0) ∧
    (win1_5.index t (0 : Fin 3) = t.val ∧ win1_5.index t (1 : Fin 3) = 0 ∧ win1_5.index t (2 : Fin 3) = 0) :=
  (by decide +kernel : ∀ t : Fin grid1.N, _)

/-- Where an index of the activations' block lies in their array. -/
theorem emb1_0 (t : Fin cfg1.N) (r : Fin 256) (k : Fin 1920) :
    ((cfg1.win 0).blk t).view.emb (ix2 r k) = ix2 (xRow t r) k := by
  obtain ⟨⟨e0, e1⟩, -⟩ := index1 t
  funext a; apply Fin.ext
  match a with
  | ⟨0, _⟩ => show win1_0.index t (0 : Fin 2) * 256 + 1 * r.val = t.val * 256 + r.val; omega
  | ⟨1, _⟩ => show win1_0.index t (1 : Fin 2) * 1920 + 1 * k.val = k.val; omega

/-- The weights' block is their whole array. -/
theorem emb1_1 (t : Fin cfg1.N) (x : Fin 1920) (n : Fin 11648) :
    ((cfg1.win 1).blk t).view.emb (ix2 x n) = ix2 x n := by
  obtain ⟨-, ⟨e0, e1⟩, -⟩ := index1 t
  funext a; apply Fin.ext
  match a with
  | ⟨0, _⟩ => show win1_1.index t (0 : Fin 2) * 1920 + 1 * x.val = x.val; omega
  | ⟨1, _⟩ => show win1_1.index t (1 : Fin 2) * 11648 + 1 * n.val = n.val; omega

/-- The column scales' block is their whole array. -/
theorem emb1_2 (t : Fin cfg1.N) (n : Fin 11648) :
    ((cfg1.win 2).blk t).view.emb (ix2 (0 : Fin 1) n) = ix2 (0 : Fin 1) n := by
  obtain ⟨-, -, ⟨e0, e1⟩, -⟩ := index1 t
  funext a; apply Fin.ext
  match a with
  | ⟨0, _⟩ => show win1_2.index t (0 : Fin 2) * 1 + 1 * 0 = 0; omega
  | ⟨1, _⟩ => show win1_2.index t (1 : Fin 2) * 11648 + 1 * n.val = n.val; omega

/-- Where an index of the output's block lies in its array. -/
theorem emb1_3 (t : Fin cfg1.N) (r : Fin 256) (n : Fin 11648) :
    ((cfg1.win 3).blk t).view.emb (ix2 r n) = ix2 (xRow t r) n := by
  obtain ⟨-, -, -, ⟨e0, e1⟩, -⟩ := index1 t
  funext a; apply Fin.ext
  match a with
  | ⟨0, _⟩ => show win1_3.index t (0 : Fin 2) * 256 + 1 * r.val = t.val * 256 + r.val; omega
  | ⟨1, _⟩ => show win1_3.index t (1 : Fin 2) * 11648 + 1 * n.val = n.val; omega

/-- Where an index of the codes' block lies in their array. -/
theorem emb1_4 (t : Fin cfg1.N) (r : Fin 256) (k : Fin 1920) :
    ((cfg1.win 4).blk t).view.emb (ix2 r k) = ix2 (xRow t r) k := by
  obtain ⟨-, -, -, -, ⟨e0, e1⟩, -⟩ := index1 t
  funext a; apply Fin.ext
  match a with
  | ⟨0, _⟩ => show win1_4.index t (0 : Fin 2) * 256 + 1 * r.val = t.val * 256 + r.val; omega
  | ⟨1, _⟩ => show win1_4.index t (1 : Fin 2) * 1920 + 1 * k.val = k.val; omega

/-- Where an index of the scales' block lies in their array. -/
theorem emb1_5 (t : Fin cfg1.N) (r : Fin 256) :
    ((cfg1.win 5).blk t).view.emb (ix3 (0 : Fin 1) (0 : Fin 1) r) = ix3 (⟨t.val, t.isLt⟩ : Fin 128) (0 : Fin 1) r := by
  obtain ⟨-, -, -, -, -, ⟨e0, e1, e2⟩⟩ := index1 t
  funext a; apply Fin.ext
  match a with
  | ⟨0, _⟩ => show win1_5.index t (0 : Fin 3) * 1 + 1 * 0 = t.val; omega
  | ⟨1, _⟩ => show win1_5.index t (1 : Fin 3) * 1 + 1 * 0 = 0; omega
  | ⟨2, _⟩ => show win1_5.index t (2 : Fin 3) * 256 + 1 * r.val = r.val; omega

/-- An index of a column of scales, given by its last coordinate. -/
theorem eq_ix3_mid {m n : Nat} (j : (⟨3, ![m, 1, n]⟩ : Shape).Idx) : j = ix3 (j 0) (0 : Fin 1) (j 2) := by
  funext a; apply Fin.ext
  match a with
  | ⟨0, _⟩ => rfl
  | ⟨1, _⟩ => have h : (j 1).val < 1 := (j 1).isLt
              show (j 1).val = 0; omega
  | ⟨2, _⟩ => rfl

/-- An index of a block of scales, given by its last coordinate. -/
theorem eq_ix3_last {n : Nat} (j : (⟨3, ![1, 1, n]⟩ : Shape).Idx) : j = ix3 (0 : Fin 1) (0 : Fin 1) (j 2) := by
  funext a; apply Fin.ext
  match a with
  | ⟨0, _⟩ => have h : (j 0).val < 1 := (j 0).isLt
              show (j 0).val = 0; omega
  | ⟨1, _⟩ => have h : (j 1).val < 1 := (j 1).isLt
              show (j 1).val = 0; omega
  | ⟨2, _⟩ => rfl

section Generic

variable {F : FTy → Type} [FloatOps F]
variable (V : (c : Dev nD) → (b : Ref sig .tc) → Buf (Elt F) ((c : Thread nD τ).loc b))

/-- The block of output after point `t` is what the body's run leaves. -/
theorem outs_1_run (c : Dev nD) (t : Fin cfg1.N) : (outsAt1 V c t).1 = out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) := by
  dsimp only [outsAt1]

/-- The block of codes after point `t` is what the body's run leaves. -/
theorem outs_2_run (c : Dev nD) (t : Fin cfg1.N) : (outsAt1 V c t).2.1 = out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) := by
  dsimp only [outsAt1]

/-- The block of scales after point `t` is what the body's run leaves. -/
theorem outs_3_run (c : Dev nD) (t : Fin cfg1.N) : (outsAt1 V c t).2.2 = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t) (iblk1 V c 2 t) := by
  dsimp only [outsAt1]

end Generic

variable (V : (c : Dev nD) → (b : Ref sig .tc) → Buf (Elt Ideal) ((c : Thread nD τ).loc b))

/-- The activations' block at row `r` is row `xRow t r` of the activations. -/
theorem iblk1_0_at (c : Dev nD) (t : Fin cfg1.N) (r : Fin 256) (k : Fin 1920) :
    iblk1 V c 0 t (ix2 r k) = V c main_v3 (ix2 (xRow t r) k) := congrArg (V c main_v3) (emb1_0 t r k)

/-- The exponent field of a block's row is that of the array's row. -/
theorem field_at (c : Dev nD) (t : Fin cfg1.N) (r : Fin 256) :
    blkField (iblk1 V c 0 t) r = rowField (V c main_v3) (xRow t r) := by
  unfold blkField blkMax rowField
  rw [show (fun k : Fin 1920 => FloatOps.absf (F := Ideal) (φ := .f32) (iblk1 V c 0 t (ix2 r k)))
      = fun k : Fin 1920 => FloatOps.absf (F := Ideal) (φ := .f32) (V c main_v3 (ix2 (xRow t r) k)) from
    funext fun k => by rw [iblk1_0_at]]

/-- The scale of a block's row. -/
theorem scale_at (c : Dev nD) (t : Fin cfg1.N) (r : Fin 256) :
    k1_pay6 (iblk1 V c 0 t) (ix2 r 0) = kerScale (rowField (V c main_v3) (xRow t r)) :=
  (pay6_at (iblk1 V c 0 t) r).trans (by rw [field_at])

/-- The codes of a block's row. -/
theorem code_at (c : Dev nD) (t : Fin cfg1.N) (r : Fin 256) (k : Fin 1920) :
    k1_pay7 (iblk1 V c 0 t) (ix2 r k) = codeAt (V c main_v3) (xRow t r) k := by
  refine (pay7_at (iblk1 V c 0 t) r k).trans ?_
  rw [field_at, iblk1_0_at]
  rfl

/-- The output block after point `t`. -/
theorem outs_1 (c : Dev nD) (t : Fin cfg1.N) (r : Fin 256) (n : Fin 11648) :
    (outsAt1 V c t).1 (ix2 r n) = blkOut (iblk1 V c 0 t) (iblk1 V c 1 t) (iblk1 V c 2 t) r n := by
  rw [outs_1_run, out3_at]

/-- The block of codes after point `t`. -/
theorem outs_2 (c : Dev nD) (t : Fin cfg1.N) : (outsAt1 V c t).2.1 = k1_pay7 (iblk1 V c 0 t) := by
  rw [outs_2_run, out4_eq]

/-- The block of scales after point `t`. -/
theorem outs_3 (c : Dev nD) (t : Fin cfg1.N) : (outsAt1 V c t).2.2 = k1_pay8 (k1_pay6 (iblk1 V c 0 t)) := by
  rw [outs_3_run, out5_eq]

/-- What point `t` writes back of the output. -/
theorem flushed1_3 (c : Dev nD) (t : Fin cfg1.N) :
    (dat1 V c).flushed 3 t = ((cfg1.win 3).blk t).view.read (Elt Ideal) (outArr (V c main_v3) (V c main_v2) (V c main_v4)) := by
  show (cfg1.win 3).cut (grid1.coords t) ((dat1 V c).after 3 t) = _
  rw [after1_3]
  funext j
  obtain ⟨r, n, rfl⟩ : ∃ (r : Fin 256) (n : Fin 11648), j = ix2 r n := ⟨j 0, j 1, eq_ix2 j⟩
  show (outsAt1 V c t).1 (ix2 r n) = outArr (V c main_v3) (V c main_v2) (V c main_v4) (((cfg1.win 3).blk t).view.emb (ix2 r n))
  rw [emb1_3]
  rw [outs_1]
  show blkOut _ _ _ r n = outAt _ _ _ (xRow t r) n
  have a1 : ∀ x : Fin 1920, iblk1 V c 1 t (ix2 x n) = V c main_v2 (ix2 x n) := fun x => congrArg (V c main_v2) (emb1_1 t x n)
  have a2 : iblk1 V c 2 t (ix2 (0 : Fin 1) n) = V c main_v4 (ix2 (0 : Fin 1) n) := congrArg (V c main_v4) (emb1_2 t n)
  unfold blkOut outAt
  rw [scale_at, a2, Finset.sum_congr rfl fun x _ => by rw [code_at, a1 x]]

/-- What point `t` writes back of the codes. -/
theorem flushed1_4 (c : Dev nD) (t : Fin cfg1.N) :
    (dat1 V c).flushed 4 t = ((cfg1.win 4).blk t).view.read (Elt Ideal) (codeArr (V c main_v3)) := by
  show (cfg1.win 4).cut (grid1.coords t) ((dat1 V c).after 4 t) = _
  rw [after1_4]
  funext j
  obtain ⟨r, k, rfl⟩ : ∃ (r : Fin 256) (k : Fin 1920), j = ix2 r k := ⟨j 0, j 1, eq_ix2 j⟩
  show (outsAt1 V c t).2.1 (ix2 r k) = codeArr (V c main_v3) (((cfg1.win 4).blk t).view.emb (ix2 r k))
  rw [emb1_4]
  rw [outs_2]
  exact code_at V c t r k

/-- What point `t` writes back of the scales. -/
theorem flushed1_5 (c : Dev nD) (t : Fin cfg1.N) :
    (dat1 V c).flushed 5 t = ((cfg1.win 5).blk t).view.read (Elt Ideal) (scaleArr (V c main_v3)) := by
  show (cfg1.win 5).cut (grid1.coords t) ((dat1 V c).after 5 t) = _
  rw [after1_5]
  funext j
  obtain ⟨r, rfl⟩ : ∃ (r : Fin 256), j = ix3 (0 : Fin 1) (0 : Fin 1) r :=
    ⟨j 2, eq_ix3_last j⟩
  show (outsAt1 V c t).2.2 (ix3 (0 : Fin 1) (0 : Fin 1) r) = scaleArr (V c main_v3) (((cfg1.win 5).blk t).view.emb (ix3 (0 : Fin 1) (0 : Fin 1) r))
  rw [emb1_5]
  rw [outs_3]
  exact (pay8_at _ r).trans (scale_at V c t r)

/-- The grid point whose block holds row `R`. -/
abbrev ptOf (R : Fin 32768) : Fin cfg1.N := ⟨R.val / 256, by show R.val / 256 < 128; omega⟩

/-- Row `R` is row `R % 256` of its block. -/
theorem xRow_ptOf (R : Fin 32768) : xRow (ptOf R) ⟨R.val % 256, by omega⟩ = R :=
  Fin.ext (by show R.val / 256 * 256 + R.val % 256 = R.val; omega)

/-- Every element of the output is in some point's block. -/
theorem covered1_3 (i : S32768x11648.Idx) :
    ∃ t : Fin cfg1.N, (cfg1.win 3).flush t = true ∧ i ∈ ((cfg1.win 3).blk t).view.set := by
  obtain ⟨R, n, rfl⟩ : ∃ (R : Fin 32768) (n : Fin 11648), i = ix2 R n := ⟨i 0, i 1, eq_ix2 i⟩
  refine ⟨ptOf R, flush1_3 _, ?_⟩
  have h := ((cfg1.win 3).blk (ptOf R)).view.emb_mem_set (ix2 (⟨R.val % 256, by omega⟩ : Fin 256) n)
  rwa [emb1_3, xRow_ptOf] at h

/-- Every element of the codes is in some point's block. -/
theorem covered1_4 (i : S32768x1920.Idx) :
    ∃ t : Fin cfg1.N, (cfg1.win 4).flush t = true ∧ i ∈ ((cfg1.win 4).blk t).view.set := by
  obtain ⟨R, n, rfl⟩ : ∃ (R : Fin 32768) (n : Fin 1920), i = ix2 R n := ⟨i 0, i 1, eq_ix2 i⟩
  refine ⟨ptOf R, flush1_4 _, ?_⟩
  have h := ((cfg1.win 4).blk (ptOf R)).view.emb_mem_set (ix2 (⟨R.val % 256, by omega⟩ : Fin 256) n)
  rwa [emb1_4, xRow_ptOf] at h

/-- Every scale is in some point's block. -/
theorem covered1_5 (i : S128x1x256.Idx) :
    ∃ t : Fin cfg1.N, (cfg1.win 5).flush t = true ∧ i ∈ ((cfg1.win 5).blk t).view.set := by
  obtain ⟨p, r, rfl⟩ : ∃ (p : Fin 128) (r : Fin 256), i = ix3 p (0 : Fin 1) r :=
    ⟨i 0, i 2, eq_ix3_mid i⟩
  refine ⟨(⟨p.val, p.isLt⟩ : Fin cfg1.N), flush1_5 _, ?_⟩
  have h := ((cfg1.win 5).blk (⟨p.val, p.isLt⟩ : Fin cfg1.N)).view.emb_mem_set (ix3 (0 : Fin 1) (0 : Fin 1) r)
  rwa [emb1_5] at h

/-- The output after the second grid. -/
theorem final1_3 (c : Dev nD) : (dat1 V c).arrAt 3 cfg1.N = outArr (V c main_v3) (V c main_v2) (V c main_v4) :=
  (dat1 V c).arrAt_eq_of_cover 3 (outArr (V c main_v3) (V c main_v2) (V c main_v4)) (fun t _ => flushed1_3 V c t) covered1_3

/-- The codes after the second grid. -/
theorem final1_4 (c : Dev nD) : (dat1 V c).arrAt 4 cfg1.N = codeArr (V c main_v3) :=
  (dat1 V c).arrAt_eq_of_cover 4 (codeArr (V c main_v3)) (fun t _ => flushed1_4 V c t) covered1_4

/-- The scales after the second grid. -/
theorem final1_5 (c : Dev nD) : (dat1 V c).arrAt 5 cfg1.N = scaleArr (V c main_v3) :=
  (dat1 V c).arrAt_eq_of_cover 5 (scaleArr (V c main_v3)) (fun t _ => flushed1_5 V c t) covered1_5

end Cert.Proof

end
-- ==== Proof.Host.lean ====
module
public import proofs.«01_k».proof.Proof.Region0
public import proofs.«01_k».proof.Proof.Region1
@[expose] public section
set_option maxRecDepth 16384
noncomputable section

/-!
# The reshapes around the two grids, and the kernel's results as functions of its arguments
-/

namespace Cert.Proof

open Idealize.ShloMosaic Idealize.ShloMosaic.TcCoe Idealize.ShloMosaic.Tactic
open Idealize.SL Idealize.SL.Sem
open Idealize.ShloMosaic.Pointwise
open Cert.KernelIdeal Cert.KernelIdeal.Gen

/-- Row `s` of batch `b` as a row of the flattened activations. -/
abbrev rowOf (b : Fin 4) (s : Fin 8192) : Fin 32768 := ⟨8192 * b.val + s.val, by omega⟩

/-- The row-major position of an index of a matrix. -/
theorem rowMajor_ix2 {a b : Nat} (i : Fin a) (j : Fin b) :
    ((⟨2, ![a, b]⟩ : Shape).rowMajor (ix2 i j) : Nat) = i.val * b + j.val := by
  show (Shape.rowMajorPi ![a, b] (ix2 i j)).val = _
  rw [Shape.rowMajorPi_succ_val, Shape.rowMajorPi_succ_val]
  have c0 : ((ix2 i j : (⟨2, ![a, b]⟩ : Shape).Idx) 0).val = i.val := rfl
  have c1 : ((ix2 i j : (⟨2, ![a, b]⟩ : Shape).Idx) 1).val = j.val := rfl
  simp [Fin.prod_univ_succ, Shape.rowMajorPi_zero]

/-- The row-major position of an index of an array of three axes. -/
theorem rowMajor_ix3 {a b c : Nat} (i : Fin a) (j : Fin b) (k : Fin c) :
    ((⟨3, ![a, b, c]⟩ : Shape).rowMajor (ix3 i j k) : Nat) = i.val * (b * c) + (j.val * c + k.val) := by
  show (Shape.rowMajorPi ![a, b, c] (ix3 i j k)).val = _
  rw [Shape.rowMajorPi_succ_val, Shape.rowMajorPi_succ_val, Shape.rowMajorPi_succ_val]
  simp [Fin.prod_univ_succ, Shape.rowMajorPi_zero]

section Reshapes

variable {α : Type}

/-- A `[15, 11648]` array read as `[15, 1, 11648]`. -/
theorem cast_groups (x : S15x11648.Idx → α) (h : S15x11648.ShapeCasts S15x1x11648) (g : Fin 15) (n : Fin 11648) :
    shapeCast S15x1x11648 x h (ix3 g (0 : Fin 1) n) = x (ix2 g n) := by
  pointwise

/-- A `[11648]` array read as `[1, 11648]`. -/
theorem cast_lane (x : S11648.Idx → α) (h : S11648.ShapeCasts S1x11648) (n : Fin 11648) :
    shapeCast S1x11648 x h (ix2 (0 : Fin 1) n) = x (ix1 n) := by
  pointwise

/-- Rows of an array of `N` columns: `[4, 8192, N]` read as `[32768, N]`. -/
theorem cast_rows {N : Nat} (x : (⟨3, ![4, 8192, N]⟩ : Shape).Idx → α)
    (h : (⟨3, ![4, 8192, N]⟩ : Shape).ShapeCasts ⟨2, ![32768, N]⟩) (b : Fin 4) (s : Fin 8192) (k : Fin N) :
    shapeCast ⟨2, ![32768, N]⟩ x h (ix2 (rowOf b s) k) = x (ix3 b s k) := by
  refine congrArg x (Shape.reshapeEquiv_eq_of_rowMajor _ ?_)
  rw [rowMajor_ix2, rowMajor_ix3]
  show b.val * (8192 * N) + (s.val * N + k.val) = (8192 * b.val + s.val) * N + k.val
  ring

/-- The same read back: `[32768, N]` read as `[4, 8192, N]`. -/
theorem cast_batches {N : Nat} (x : (⟨2, ![32768, N]⟩ : Shape).Idx → α)
    (h : (⟨2, ![32768, N]⟩ : Shape).ShapeCasts ⟨3, ![4, 8192, N]⟩) (b : Fin 4) (s : Fin 8192) (k : Fin N) :
    shapeCast ⟨3, ![4, 8192, N]⟩ x h (ix3 b s k) = x (ix2 (rowOf b s) k) := by
  refine congrArg x (Shape.reshapeEquiv_eq_of_rowMajor _ ?_)
  rw [rowMajor_ix2, rowMajor_ix3]
  show (8192 * b.val + s.val) * N + k.val = b.val * (8192 * N) + (s.val * N + k.val)
  ring

/-- The scales of 128 blocks of 256 rows read as one scale per row. -/
theorem cast_scales (x : S128x1x256.Idx → α) (h : S128x1x256.ShapeCasts S4x8192x1) (b : Fin 4) (s : Fin 8192) (z : Fin 1) :
    shapeCast S4x8192x1 x h (ix3 b s z)
      = x (ix3 (⟨(rowOf b s).val / 256, by omega⟩ : Fin 128) (0 : Fin 1) (⟨(rowOf b s).val % 256, by omega⟩ : Fin 256)) := by
  refine congrArg x (Shape.reshapeEquiv_eq_of_rowMajor _ ?_)
  rw [rowMajor_ix3, rowMajor_ix3]
  show (8192 * b.val + s.val) / 256 * (1 * 256) + (0 * 256 + (8192 * b.val + s.val) % 256) = b.val * (8192 * 1) + (s.val * 1 + z.val)
  omega

end Reshapes

/-- An unsigned byte widened and read as a signed number is the byte read as an unsigned number. -/
theorem sitofp_widened (u : BitVec 8) :
    FloatOps.sitofp (F := Ideal) .bf16 (BitVec.setWidth 32 u) = FloatOps.uitofp (F := Ideal) .bf16 u := by
  show (((BitVec.setWidth 32 u).toInt : ℝ) : EReal) = ((u.toNat : ℝ) : EReal)
  have hu : u.toNat < 256 := u.isLt
  have h : (BitVec.setWidth 32 u).toInt = (u.toNat : Int) := by
    rw [BitVec.toInt_eq_toNat_of_lt (by rw [BitVec.toNat_setWidth]; omega), BitVec.toNat_setWidth]
    congr 1; omega
  rw [h]; norm_cast

section Folds

variable {F : FTy → Type} [FloatOps F]
variable (m : (ℓ : Loc nD τ sig) → Buf (Elt F) ℓ) (ρ : Dev nD → PrngReg) (c : Dev nD)

/-- The zero points as the first grid finds them. -/
theorem V1_v0 : V1 m ρ c main_v0 = shapeCast S15x1x11648 (m ((c : Thread nD τ).loc main_arg3)) shapeCasts_S15x11648_S15x1x11648 := by
  show StableHlo.after hostOps0 (W0 m ρ c) (Proc.devRef .tc main_v0) = _
  after_results
  rfl

/-- The group scales as the first grid finds them. -/
theorem V1_v1 : V1 m ρ c main_v1 = shapeCast S15x1x11648 (m ((c : Thread nD τ).loc main_arg2)) shapeCasts_S15x11648_S15x1x11648 := by
  show StableHlo.after hostOps0 (W0 m ρ c) (Proc.devRef .tc main_v1) = _
  after_results
  rfl

/-- The packed weights as the first grid finds them. -/
theorem V1_arg1 : V1 m ρ c main_arg1 = m ((c : Thread nD τ).loc main_arg1) := W1_args m ρ c main_arg1 (by decide)

/-- The activations as the second grid finds them. -/
theorem V3_v3 : V3 m ρ c main_v3 = shapeCast S32768x1920 (m ((c : Thread nD τ).loc main_arg0)) shapeCasts_S4x8192x1920_S32768x1920 := by
  refine Eq.trans (b := shapeCast S32768x1920 (W2 m ρ c (Proc.devRef .tc main_arg0)) shapeCasts_S4x8192x1920_S32768x1920) ?_ ?_
  · show StableHlo.after hostOps1 (W2 m ρ c) (Proc.devRef .tc main_v3) = _
    after_results
    rfl
  · rw [W2_args m ρ c main_arg0 (by decide)]

/-- The column scales as the second grid finds them. -/
theorem V3_v4 : V3 m ρ c main_v4 = shapeCast S1x11648 (m ((c : Thread nD τ).loc main_arg4)) shapeCasts_S11648_S1x11648 := by
  refine Eq.trans (b := shapeCast S1x11648 (W2 m ρ c (Proc.devRef .tc main_arg4)) shapeCasts_S11648_S1x11648) ?_ ?_
  · show StableHlo.after hostOps1 (W2 m ρ c) (Proc.devRef .tc main_v4) = _
    after_results
    rfl
  · rw [W2_args m ρ c main_arg4 (by decide)]

/-- The weights as the second grid finds them: as the first grid leaves them. -/
theorem V3_v2 : V3 m ρ c main_v2 = (dat0 (V1 m ρ) c).arrAt 3 cfg0.N :=
  (W3_of m ρ c main_v2 (by decide)).trans (W2_arr m ρ c 3)

/-- The first result: the second grid's output, reshaped. -/
theorem W5_v6 : W5 m ρ c (Proc.devRef .tc main_v6)
    = shapeCast S4x8192x11648 ((dat1 (V3 m ρ) c).arrAt 3 cfg1.N) shapeCasts_S32768x11648_S4x8192x11648 := by
  rw [← W4_arr m ρ c 3]
  show StableHlo.after hostOps2 (W4 m ρ c) (Proc.devRef .tc main_v6) = _
  after_results
  rfl

/-- The second result: the second grid's codes, reshaped. -/
theorem W5_v7 : W5 m ρ c (Proc.devRef .tc main_v7)
    = shapeCast S4x8192x1920 ((dat1 (V3 m ρ) c).arrAt 4 cfg1.N) shapeCasts_S32768x1920_S4x8192x1920 := by
  rw [← W4_arr m ρ c 4]
  show StableHlo.after hostOps2 (W4 m ρ c) (Proc.devRef .tc main_v7) = _
  after_results
  rfl

/-- The third result: the second grid's scales, reshaped. -/
theorem W5_v8 : W5 m ρ c (Proc.devRef .tc main_v8)
    = shapeCast S4x8192x1 ((dat1 (V3 m ρ) c).arrAt 5 cfg1.N) shapeCasts_S128x1x256_S4x8192x1 := by
  rw [← W4_arr m ρ c 5]
  show StableHlo.after hostOps2 (W4 m ρ c) (Proc.devRef .tc main_v8) = _
  after_results
  rfl

end Folds

end Cert.Proof

end
-- ==== Proof.Values.lean ====
module
public import proofs.«01_k».proof.Proof.Host
@[expose] public section
set_option maxRecDepth 16384
noncomputable section

/-!
# The kernel's results are the reference's, where every row is in range
-/

namespace Cert.Proof

open Idealize.ShloMosaic Idealize.ShloMosaic.TcCoe Idealize.ShloMosaic.Tactic
open Idealize.SL Idealize.SL.Sem
open Idealize.ShloMosaic.Pointwise
open Cert.KernelIdeal Cert.KernelIdeal.Gen

/-- The largest absolute value of row `(b, s)` of the activations. -/
abbrev rowMaxAt (a0 : Vec Ideal S4x8192x1920 .bf16) (b : Fin 4) (s : Fin 8192) : EReal :=
  rowMax fun k : Fin 1920 => FloatOps.absf (F := Ideal) (φ := .f32) (a0 (ix3 b s k))

/-- The activations flattened to rows. -/
abbrev rows (a0 : Vec Ideal S4x8192x1920 .bf16) : Vec Ideal S32768x1920 .bf16 :=
  shapeCast S32768x1920 a0 shapeCasts_S4x8192x1920_S32768x1920

/-- An element of the flattened activations. -/
theorem rows_at (a0 : Vec Ideal S4x8192x1920 .bf16) (b : Fin 4) (s : Fin 8192) (k : Fin 1920) :
    rows a0 (ix2 (rowOf b s) k) = a0 (ix3 b s k) := cast_rows (N := 1920) a0 _ b s k

/-- The exponent field of a flattened row is that of the row's largest absolute value. -/
theorem rowField_rows (a0 : Vec Ideal S4x8192x1920 .bf16) (b : Fin 4) (s : Fin 8192) :
    rowField (rows a0) (rowOf b s) = expField (rowMaxAt a0 b s * Ideal.ofBits .f32 0x3B124925#32) := by
  unfold rowField
  rw [show (fun k : Fin 1920 => FloatOps.absf (F := Ideal) (φ := .f32) (rows a0 (ix2 (rowOf b s) k)))
      = fun k : Fin 1920 => FloatOps.absf (F := Ideal) (φ := .f32) (a0 (ix3 b s k)) from
    funext fun k => by rw [rows_at]]

section Agree

variable (a0 : Vec Ideal S4x8192x1920 .bf16) (a1 : Vec Ideal S1920x5824 .i8) (a2 : Vec Ideal S15x11648 .f32)
    (a3 : Vec Ideal S15x11648 .i8) (a4 : Vec Ideal S11648 .f32)
    (hr : ∀ b s, InRange (rowMaxAt a0 b s))

include hr

/-- The scales agree. -/
theorem scale_eq (b : Fin 4) (s : Fin 8192) (z : Fin 1) :
    kerScale (rowField (rows a0) (rowOf b s)) = Cert.ReferenceIdeal.Whole.G7 a0 a1 a2 a3 a4 (ix3 b s z) := by
  rw [ref_scale, rowField_rows]
  exact (scale_agree _ (hr b s)).1

/-- The codes agree. -/
theorem code_eq (b : Fin 4) (s : Fin 8192) (k : Fin 1920) :
    codeAt (rows a0) (rowOf b s) k = Cert.ReferenceIdeal.Whole.G6 a0 a1 a2 a3 a4 (ix3 b s k) := by
  rw [ref_code]
  unfold codeAt
  rw [rowField_rows, (scale_agree _ (hr b s)).2, rows_at]

omit hr in
/-- The dequantised weights agree. -/
theorem weight_eq (x : Fin 1920) (n : Fin 11648) :
    kerWeight a1 (shapeCast S15x1x11648 a3 shapeCasts_S15x11648_S15x1x11648)
      (shapeCast S15x1x11648 a2 shapeCasts_S15x11648_S15x1x11648) x n = refWeight a1 a2 a3 x n := by
  unfold kerWeight refWeight
  rw [cast_groups, cast_groups, sitofp_widened]
  split <;> rfl

/-- The outputs agree. -/
theorem out_eq (b : Fin 4) (s : Fin 8192) (n : Fin 11648) :
    outAt (rows a0) (kerWeights a1 (shapeCast S15x1x11648 a3 shapeCasts_S15x11648_S15x1x11648)
      (shapeCast S15x1x11648 a2 shapeCasts_S15x11648_S15x1x11648)) (shapeCast S1x11648 a4 shapeCasts_S11648_S1x11648) (rowOf b s) n
      = Cert.ReferenceIdeal.Whole.G5 a0 a1 a2 a3 a4 (ix3 b s n) := by
  rw [ref_y]
  unfold outAt
  rw [scale_eq a0 a1 a2 a3 a4 hr b s 0, cast_lane]
  rw [Finset.sum_congr rfl fun x _ => by
    rw [code_eq a0 a1 a2 a3 a4 hr b s x,
      show kerWeights a1 (shapeCast S15x1x11648 a3 shapeCasts_S15x11648_S15x1x11648)
        (shapeCast S15x1x11648 a2 shapeCasts_S15x11648_S15x1x11648) (ix2 x n) = refWeight a1 a2 a3 x n from weight_eq a1 a2 a3 x n]]

end Agree

section Run

variable (m : (ℓ : Loc nD τ sig) → Buf (Elt Ideal) ℓ) (ρ : Dev nD → PrngReg) (c : Dev nD)
    (hr : ∀ b s, InRange (rowMaxAt (m ((c : Thread nD τ).loc main_arg0)) b s))

include hr

/-- The first result is the reference's. -/
theorem W5_v6_eq : W5 m ρ c (Proc.devRef .tc main_v6) = Cert.ReferenceIdeal.Whole.G5 (m ((c : Thread nD τ).loc main_arg0))
    (m ((c : Thread nD τ).loc main_arg1)) (m ((c : Thread nD τ).loc main_arg2)) (m ((c : Thread nD τ).loc main_arg3)) (m ((c : Thread nD τ).loc main_arg4)) := by
  rw [W5_v6, final1_3, V3_v3, V3_v2, V3_v4, final0_3, V1_arg1, V1_v0, V1_v1]
  funext i
  obtain ⟨b, s, n, rfl⟩ : ∃ (b : Fin 4) (s : Fin 8192) (n : Fin 11648), i = ix3 b s n := ⟨i 0, i 1, i 2, eq_ix3 i⟩
  exact (cast_batches (N := 11648) _ _ b s n).trans (out_eq _ _ _ _ _ hr b s n)

/-- The second result is the reference's. -/
theorem W5_v7_eq : W5 m ρ c (Proc.devRef .tc main_v7) = Cert.ReferenceIdeal.Whole.G6 (m ((c : Thread nD τ).loc main_arg0))
    (m ((c : Thread nD τ).loc main_arg1)) (m ((c : Thread nD τ).loc main_arg2)) (m ((c : Thread nD τ).loc main_arg3)) (m ((c : Thread nD τ).loc main_arg4)) := by
  rw [W5_v7, final1_4, V3_v3]
  funext i
  obtain ⟨b, s, k, rfl⟩ : ∃ (b : Fin 4) (s : Fin 8192) (k : Fin 1920), i = ix3 b s k := ⟨i 0, i 1, i 2, eq_ix3 i⟩
  exact (cast_batches (N := 1920) _ _ b s k).trans (code_eq _ _ _ _ _ hr b s k)

/-- The third result is the reference's. -/
theorem W5_v8_eq : W5 m ρ c (Proc.devRef .tc main_v8) = Cert.ReferenceIdeal.Whole.G7 (m ((c : Thread nD τ).loc main_arg0))
    (m ((c : Thread nD τ).loc main_arg1)) (m ((c : Thread nD τ).loc main_arg2)) (m ((c : Thread nD τ).loc main_arg3)) (m ((c : Thread nD τ).loc main_arg4)) := by
  rw [W5_v8, final1_5, V3_v3]
  funext i
  obtain ⟨b, s, z, rfl⟩ : ∃ (b : Fin 4) (s : Fin 8192) (z : Fin 1), i = ix3 b s z := ⟨i 0, i 1, i 2, eq_ix3 i⟩
  refine (cast_scales _ _ b s z).trans ?_
  show kerScale (rowField (rows _) (xRow (ptOf (rowOf b s)) ⟨(rowOf b s).val % 256, by omega⟩)) = _
  rw [xRow_ptOf]
  exact scale_eq _ _ _ _ _ hr b s z

end Run

end Cert.Proof

end
-- ==== Proof.Pre.lean ====
module
public import proofs.«01_k».proof.Pre_rows_in_range
public import proofs.«01_k».proof.Proof.Exponent
public import Idealize.ShloMosaic.Lib.Pointwise
@[expose] public section
set_option maxRecDepth 16384
noncomputable section

/-!
# The precondition, read: every row's largest absolute value is in range
-/

namespace Cert.Proof

open Idealize.ShloMosaic Idealize.SL.Sem
open Idealize.ShloMosaic.Pointwise
open Cert.Pre_rows_in_range

/-- The shape relations the precondition takes. -/
instance preFacts : Cert.Pre_rows_in_range.Facts where
  bitsLt_bf16_f32 := by decide
  reducesTo_S4x8192x1920_S4x8192_d2 := by decide
  h_S_ := by decide
  bcast_S_S4x8192 := by decide

section Generic

variable {F : FTy → Type} [FloatOps F]

/-- The array of the rows' largest absolute values. -/
def preMax (a0 : FVec F S4x8192x1920 .bf16) : FVec F S4x8192 .f32 :=
  Host.reduce FloatOps.maximumf (Host.absf (extf .f32 a0 Facts.bitsLt_bf16_f32)) (constant S_ .f32 0xFF800000#32)
    Facts.reducesTo_S4x8192x1920_S4x8192_d2 Facts.h_S_

/-- The test of one row's largest absolute value. -/
def preTest (M : F .f32) : BitVec 1 :=
  IntOp.ori (FloatOps.cmpf .oeq M (FloatOps.ofBits .f32 0x00000000#32))
    (IntOp.andi (FloatOps.cmpf .oge M (FloatOps.ofBits .f32 0x04E00000#32)) (FloatOps.cmpf .ole M (FloatOps.ofBits .f32 0x7F7F0000#32)))

/-- The precondition at row `(b, s)`. -/
theorem pre_at (a0 : FVec F S4x8192x1920 .bf16) (a1 : IVec S1920x5824 8) (a2 : FVec F S15x11648 .f32) (a3 : IVec S15x11648 8)
    (a4 : FVec F S11648 .f32) (b : Fin 4) (s : Fin 8192) :
    Cert.Pre_rows_in_range.fn a0 a1 a2 a3 a4 (ix2 b s) = preTest (preMax a0 (ix2 b s)) := rfl

end Generic

/-- The array of the rows' largest absolute values at row `(b, s)`. -/
theorem preMax_at (a0 : FVec Ideal S4x8192x1920 .bf16) (b : Fin 4) (s : Fin 8192) :
    preMax a0 (ix2 b s) = rowMax fun k : Fin 1920 => FloatOps.absf (F := Ideal) (φ := .f32) (a0 (ix3 b s k)) :=
  hostReduce_rowMax (n0 := 4) (n1 := 8192) (n2 := 1920) _ _ _ b s

/-- A row that passes the test is in range. -/
theorem inRange_of_test (M : EReal) (h : preTest (F := Ideal) M = 1#1) : InRange M := by
  have key : ∀ p q r : Bool, IntOp.ori (BitVec.ofBool p) (IntOp.andi (BitVec.ofBool q) (BitVec.ofBool r)) = 1#1 →
      p = true ∨ (q = true ∧ r = true) := by decide
  rcases key _ _ _ h with h | ⟨h1, h2⟩
  · left
    exact Eq.trans (of_decide_eq_true h : M = Ideal.ofBits .f32 0x00000000#32) ofBits_zero
  · exact .inr ⟨of_decide_eq_true h1, of_decide_eq_true h2⟩

/-- Under the precondition every row is in range. -/
theorem inRange_of_pre (a0 : FVec Ideal S4x8192x1920 .bf16) (a1 : IVec S1920x5824 8) (a2 : FVec Ideal S15x11648 .f32) (a3 : IVec S15x11648 8)
    (a4 : FVec Ideal S11648 .f32) (h : Cert.Pre_rows_in_range.fn (F := Ideal) a0 a1 a2 a3 a4 = fun _ => 1#1) (b : Fin 4) (s : Fin 8192) :
    InRange (rowMax fun k : Fin 1920 => FloatOps.absf (F := Ideal) (φ := .f32) (a0 (ix3 b s k))) := by
  rw [← preMax_at]
  exact inRange_of_test _ ((pre_at a0 a1 a2 a3 a4 b s).symm.trans (congrFun h (ix2 b s)))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.RefRun
public import proofs.«01_k».proof.Proof.Values
public import proofs.«01_k».proof.Proof.Pre
public import Idealize.ShloMosaic.Adequacy
public import Idealize.ShloMosaic.Init

@[expose] public section

noncomputable section

namespace Cert.Proof

open Idealize.ShloMosaic Idealize.SL.Sem

/-- A function of five arguments takes equal values at equal arguments. -/
theorem congr_five {A B C D E R : Type} (f : A → B → C → D → E → R) {a a' : A} {b b' : B} {c c' : C} {d d' : D} {e e' : E}
    (ha : a' = a) (hb : b' = b) (hc : c' = c) (hd : d' = d) (he : e' = e) : f a' b' c' d' e' = f a b c d e := by
  subst ha hb hc hd he; rfl

/-- Over the extended reals, where every row is in range, the kernel's three results are the reference's. -/
theorem algebraic : Cert.algebraic_KernelIdeal_ReferenceIdeal_pre_rows_in_range
    (hKernelIdeal := Cert.KernelIdeal.Gen.facts) (hReferenceIdeal := Cert.ReferenceIdeal.Gen.facts) (hPre_rows_in_range := preFacts) := by
  intro m g m' g' hp ha
  have hr : ∀ (c : Dev Cert.KernelIdeal.nD) (b : Fin 4) (s : Fin 8192), InRange (rowMaxAt (m ((c.tc : Thread Cert.KernelIdeal.nD Cert.KernelIdeal.τ).loc Cert.KernelIdeal.main_arg0)) b s) :=
    fun c b s => inRange_of_pre _ _ _ _ _ (hp c) b s
  exact ⟨_, _, _,
    (θ_run _ _ _).mono (fun r h c => ⟨(h c).1.trans (W5_v6_eq m g c (hr c)), (h c).2.1.trans (W5_v7_eq m g c (hr c)),
      (h c).2.2.1.trans (W5_v8_eq m g c (hr c)), (h c).2.2.2⟩) (Cert.KernelIdeal.Gen.run_results m g),
    (θ_run _ _ _).mono (fun r h c =>
      have e := ha c
      ⟨(h c).1.trans (congr_five _ e.1 e.2.1 e.2.2.1 e.2.2.2.1 e.2.2.2.2),
       (h c).2.1.trans (congr_five _ e.1 e.2.1 e.2.2.1 e.2.2.2.1 e.2.2.2.2),
       (h c).2.2.1.trans (congr_five _ e.1 e.2.1 e.2.2.1 e.2.2.2.1 e.2.2.2.2), (h c).2.2.2⟩) (Cert.ReferenceIdeal.Whole.run m' g')⟩

theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    algebraic⟩

end Cert.Proof

end
